-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v175) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S32x128 : Shape := ⟨2, ![32, 128]⟩
abbrev S40960 : Shape := ⟨1, ![40960]⟩
abbrev S32768 : Shape := ⟨1, ![32768]⟩
abbrev S8192 : Shape := ⟨1, ![8192]⟩
abbrev S4x5120 : Shape := ⟨2, ![4, 5120]⟩
abbrev S4x4096 : Shape := ⟨2, ![4, 4096]⟩
abbrev S4x1024 : Shape := ⟨2, ![4, 1024]⟩
abbrev S5120 : Shape := ⟨1, ![5120]⟩
abbrev S4096 : Shape := ⟨1, ![4096]⟩
abbrev S1024 : Shape := ⟨1, ![1024]⟩
abbrev S2048x20 : Shape := ⟨2, ![2048, 20]⟩
abbrev S2048x16 : Shape := ⟨2, ![2048, 16]⟩
abbrev S2048x4 : Shape := ⟨2, ![2048, 4]⟩
abbrev S4x256x4x5 : Shape := ⟨4, ![4, 256, 4, 5]⟩
abbrev S4x256x4x1 : Shape := ⟨4, ![4, 256, 4, 1]⟩
abbrev S4x256x4 : Shape := ⟨3, ![4, 256, 4]⟩
abbrev S4x4x256 : Shape := ⟨3, ![4, 4, 256]⟩
abbrev S4x256x4x4 : Shape := ⟨4, ![4, 256, 4, 4]⟩
abbrev S4x4x4x256 : Shape := ⟨4, ![4, 4, 4, 256]⟩
abbrev S256x4x5 : Shape := ⟨3, ![256, 4, 5]⟩
abbrev S256x4x1 : Shape := ⟨3, ![256, 4, 1]⟩
abbrev S256x4 : Shape := ⟨2, ![256, 4]⟩
abbrev S4x256 : Shape := ⟨2, ![4, 256]⟩
abbrev S256x4x4 : Shape := ⟨3, ![256, 4, 4]⟩
abbrev S32x16 : Shape := ⟨2, ![32, 16]⟩
abbrev S128x20 : Shape := ⟨2, ![128, 20]⟩
abbrev S128x16 : Shape := ⟨2, ![128, 16]⟩
abbrev S128x4 : Shape := ⟨2, ![128, 4]⟩
abbrev S16x32 : Shape := ⟨2, ![16, 32]⟩
abbrev S128x1 : Shape := ⟨2, ![128, 1]⟩
abbrev S128 : Shape := ⟨1, ![128]⟩
abbrev S1x128x1 : Shape := ⟨3, ![1, 128, 1]⟩
abbrev S32x1x128 : Shape := ⟨3, ![32, 1, 128]⟩
abbrev S32x128x128 : Shape := ⟨3, ![32, 128, 128]⟩
abbrev S32x128x64 : Shape := ⟨3, ![32, 128, 64]⟩
abbrev S32x128x32 : Shape := ⟨3, ![32, 128, 32]⟩
abbrev S32x128x16 : Shape := ⟨3, ![32, 128, 16]⟩
abbrev S32x128x8 : Shape := ⟨3, ![32, 128, 8]⟩
abbrev S32x128x4 : Shape := ⟨3, ![32, 128, 4]⟩
abbrev S32x128x2 : Shape := ⟨3, ![32, 128, 2]⟩
abbrev S32x128x1 : Shape := ⟨3, ![32, 128, 1]⟩
abbrev S32x64 : Shape := ⟨2, ![32, 64]⟩
abbrev S32x32 : Shape := ⟨2, ![32, 32]⟩
abbrev S32x8 : Shape := ⟨2, ![32, 8]⟩
abbrev S32x4 : Shape := ⟨2, ![32, 4]⟩
abbrev S32x2 : Shape := ⟨2, ![32, 2]⟩
abbrev S32x1 : Shape := ⟨2, ![32, 1]⟩
abbrev S32 : Shape := ⟨1, ![32]⟩
abbrev S1x32 : Shape := ⟨2, ![1, 32]⟩
abbrev S1x4x256 : Shape := ⟨3, ![1, 4, 256]⟩
abbrev S1x4x4x256 : Shape := ⟨4, ![1, 4, 4, 256]⟩
abbrev S1x256 : Shape := ⟨2, ![1, 256]⟩
abbrev S256 : Shape := ⟨1, ![256]⟩
abbrev S1x1x256 : Shape := ⟨3, ![1, 1, 256]⟩
abbrev S32x16x1 : Shape := ⟨3, ![32, 16, 1]⟩
abbrev S32x16x256 : Shape := ⟨3, ![32, 16, 256]⟩
abbrev S32x8x256 : Shape := ⟨3, ![32, 8, 256]⟩
abbrev S32x4x256 : Shape := ⟨3, ![32, 4, 256]⟩
abbrev S32x2x256 : Shape := ⟨3, ![32, 2, 256]⟩
abbrev S32x1x256 : Shape := ⟨3, ![32, 1, 256]⟩
abbrev S32x256 : Shape := ⟨2, ![32, 256]⟩
abbrev S32x16x16 : Shape := ⟨3, ![32, 16, 16]⟩
abbrev S32x16x8 : Shape := ⟨3, ![32, 16, 8]⟩
abbrev S32x16x4 : Shape := ⟨3, ![32, 16, 4]⟩
abbrev S32x16x2 : Shape := ⟨3, ![32, 16, 2]⟩

abbrev nBuf : Space → Nat
  | .hbm => 30
  | .vmem => 15
  | .smem => 0
  | _ => 0

abbrev bufTy : (tb : Table) → Fin (tcTables nBuf tb) → BufTy
  | .hbm, ⟨0, _⟩ => ⟨S32x128, .f32⟩
  | .hbm, ⟨1, _⟩ => ⟨S40960, .f32⟩
  | .hbm, ⟨2, _⟩ => ⟨S32768, .f32⟩
  | .hbm, ⟨3, _⟩ => ⟨S8192, .f32⟩
  | .hbm, ⟨4, _⟩ => ⟨S4x5120, .f32⟩
  | .hbm, ⟨5, _⟩ => ⟨S4x4096, .f32⟩
  | .hbm, ⟨6, _⟩ => ⟨S4x1024, .f32⟩
  | .hbm, ⟨7, _⟩ => ⟨S5120, .f32⟩
  | .hbm, ⟨8, _⟩ => ⟨S4096, .f32⟩
  | .hbm, ⟨9, _⟩ => ⟨S1024, .f32⟩
  | .hbm, ⟨10, _⟩ => ⟨S2048x20, .f32⟩
  | .hbm, ⟨11, _⟩ => ⟨S2048x16, .f32⟩
  | .hbm, ⟨12, _⟩ => ⟨S2048x4, .f32⟩
  | .hbm, ⟨13, _⟩ => ⟨S4x256x4x5, .f32⟩
  | .hbm, ⟨14, _⟩ => ⟨S4x256x4x1, .f32⟩
  | .hbm, ⟨15, _⟩ => ⟨S4x256x4, .f32⟩
  | .hbm, ⟨16, _⟩ => ⟨S4x4x256, .f32⟩
  | .hbm, ⟨17, _⟩ => ⟨S4x256x4x4, .f32⟩
  | .hbm, ⟨18, _⟩ => ⟨S4x4x4x256, .f32⟩
  | .hbm, ⟨19, _⟩ => ⟨S4x256x4, .f32⟩
  | .hbm, ⟨20, _⟩ => ⟨S4x4x256, .f32⟩
  | .hbm, ⟨21, _⟩ => ⟨S256x4x5, .f32⟩
  | .hbm, ⟨22, _⟩ => ⟨S256x4x1, .f32⟩
  | .hbm, ⟨23, _⟩ => ⟨S256x4, .f32⟩
  | .hbm, ⟨24, _⟩ => ⟨S4x256, .f32⟩
  | .hbm, ⟨25, _⟩ => ⟨S256x4x4, .f32⟩
  | .hbm, ⟨26, _⟩ => ⟨S4x4x256, .f32⟩
  | .hbm, ⟨27, _⟩ => ⟨S256x4, .f32⟩
  | .hbm, ⟨28, _⟩ => ⟨S4x256, .f32⟩
  | .hbm, ⟨29, _⟩ => ⟨S32x16, .f32⟩
  | .local _ .vmem, ⟨0, _⟩ => ⟨S32x128, .f32⟩
  | .local _ .vmem, ⟨1, _⟩ => ⟨S128x20, .f32⟩
  | .local _ .vmem, ⟨2, _⟩ => ⟨S128x20, .f32⟩
  | .local _ .vmem, ⟨3, _⟩ => ⟨S128x16, .f32⟩
  | .local _ .vmem, ⟨4, _⟩ => ⟨S128x16, .f32⟩
  | .local _ .vmem, ⟨5, _⟩ => ⟨S128x4, .f32⟩
  | .local _ .vmem, ⟨6, _⟩ => ⟨S128x4, .f32⟩
  | .local _ .vmem, ⟨7, _⟩ => ⟨S4x4x256, .f32⟩
  | .local _ .vmem, ⟨8, _⟩ => ⟨S4x4x4x256, .f32⟩
  | .local _ .vmem, ⟨9, _⟩ => ⟨S4x4x256, .f32⟩
  | .local _ .vmem, ⟨10, _⟩ => ⟨S4x256, .f32⟩
  | .local _ .vmem, ⟨11, _⟩ => ⟨S4x4x256, .f32⟩
  | .local _ .vmem, ⟨12, _⟩ => ⟨S4x256, .f32⟩
  | .local _ .vmem, ⟨13, _⟩ => ⟨S32x16, .f32⟩
  | .local _ .vmem, ⟨14, _⟩ => ⟨S16x32, .f32⟩
  | _, _ => ⟨S32x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_scratch0 : Ref sig .tc := ⟨.vmem, 14, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13

abbrev nD : Nat := 1
abbrev τ : Topo := Topo.v7x

variable {F : FTy → Type} [FloatOps F]

abbrev grid0 : Pipeline.Grid := ⟨1, ![17], ![false]⟩

def k0_cond1 (i : grid0.Coords) : BitVec 1 :=
  let arg0 : BitVec 32 := BitVec.ofNat 32 (i 0).val
  let c16_i32 : BitVec 32 := 16#32
  let v0 : BitVec 1 := Scalar.cmpi .slt arg0 c16_i32
  let v1 : BitVec 32 := Scalar.extui v0
  let c0_i32 : BitVec 32 := 0#32
  let v2 : BitVec 1 := Scalar.cmpi .ne v1 c0_i32
  v2

def k0_off1 (i : grid0.Coords) : Fin 2 → Nat :=
  let arg0 : BitVec 32 := BitVec.ofNat 32 (i 0).val
  let v327 : Index := Scalar.indexCast arg0
  let c0_67 : Index := 0#32
  ![v327.toNat, 0]
def k0_cond2 (i : grid0.Coords) : BitVec 1 :=
  let arg0 : BitVec 32 := BitVec.ofNat 32 (i 0).val
  let c16_i32_0 : BitVec 32 := 16#32
  let v3 : BitVec 1 := Scalar.cmpi .eq arg0 c16_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S32x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S128x20 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x4 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4x4x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x4x4x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x4x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x4x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S32x16 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== ReferenceIdeal.lean ====
abbrev S32x128 : Shape := ⟨2, ![32, 128]⟩
abbrev S40960 : Shape := ⟨1, ![40960]⟩
abbrev S32768 : Shape := ⟨1, ![32768]⟩
abbrev S8192 : Shape := ⟨1, ![8192]⟩
abbrev S4x5120 : Shape := ⟨2, ![4, 5120]⟩
abbrev S4x4096 : Shape := ⟨2, ![4, 4096]⟩
abbrev S4x1024 : Shape := ⟨2, ![4, 1024]⟩
abbrev S5120 : Shape := ⟨1, ![5120]⟩
abbrev S4096 : Shape := ⟨1, ![4096]⟩
abbrev S1024 : Shape := ⟨1, ![1024]⟩
abbrev S_ : Shape := ⟨0, ![]⟩
abbrev S32x128x4 : Shape := ⟨3, ![32, 128, 4]⟩
abbrev S32x128x1 : Shape := ⟨3, ![32, 128, 1]⟩
abbrev S32x128x5 : Shape := ⟨3, ![32, 128, 5]⟩
abbrev S1x32x1x128x1x5 : Shape := ⟨6, ![1, 32, 1, 128, 1, 5]⟩
abbrev S1x32x1x128x2048x5 : Shape := ⟨6, ![1, 32, 1, 128, 2048, 5]⟩
abbrev S32x128x10240 : Shape := ⟨3, ![32, 128, 10240]⟩
abbrev S32x10240x128 : Shape := ⟨3, ![32, 10240, 128]⟩
abbrev S2048x4x5 : Shape := ⟨3, ![2048, 4, 5]⟩
abbrev S32x2048x5x128 : Shape := ⟨4, ![32, 2048, 5, 128]⟩
abbrev S2048x32x128x4 : Shape := ⟨4, ![2048, 32, 128, 4]⟩
abbrev S32x2048x4x128 : Shape := ⟨4, ![32, 2048, 4, 128]⟩
abbrev S32x8192x128 : Shape := ⟨3, ![32, 8192, 128]⟩
abbrev S2048x4x4 : Shape := ⟨3, ![2048, 4, 4]⟩
abbrev S2048x1x4 : Shape := ⟨3, ![2048, 1, 4]⟩
abbrev S2048x32x128x1 : Shape := ⟨4, ![2048, 32, 128, 1]⟩
abbrev S32x2048x1x128 : Shape := ⟨4, ![32, 2048, 1, 128]⟩
abbrev S32x2048x128 : Shape := ⟨3, ![32, 2048, 128]⟩
abbrev S32x2048 : Shape := ⟨2, ![32, 2048]⟩
abbrev S32x16x128 : Shape := ⟨3, ![32, 16, 128]⟩
abbrev S32x16 : Shape := ⟨2, ![32, 16]⟩
abbrev S1x5120 : Shape := ⟨2, ![1, 5120]⟩
abbrev S1x4096 : Shape := ⟨2, ![1, 4096]⟩
abbrev S1x1024 : Shape := ⟨2, ![1, 1024]⟩
abbrev S32x16x4 : Shape := ⟨3, ![32, 16, 4]⟩
abbrev S32x16x1 : Shape := ⟨3, ![32, 16, 1]⟩
abbrev S32x16x5 : Shape := ⟨3, ![32, 16, 5]⟩
abbrev S1x32x1x16x1x5 : Shape := ⟨6, ![1, 32, 1, 16, 1, 5]⟩
abbrev S1x32x1x16x256x5 : Shape := ⟨6, ![1, 32, 1, 16, 256, 5]⟩
abbrev S32x16x1280 : Shape := ⟨3, ![32, 16, 1280]⟩
abbrev S32x1280x16 : Shape := ⟨3, ![32, 1280, 16]⟩
abbrev S256x4x5 : Shape := ⟨3, ![256, 4, 5]⟩
abbrev S32x256x5x16 : Shape := ⟨4, ![32, 256, 5, 16]⟩
abbrev S256x32x16x4 : Shape := ⟨4, ![256, 32, 16, 4]⟩
abbrev S32x256x4x16 : Shape := ⟨4, ![32, 256, 4, 16]⟩
abbrev S32x1024x16 : Shape := ⟨3, ![32, 1024, 16]⟩
abbrev S256x4x4 : Shape := ⟨3, ![256, 4, 4]⟩
abbrev S256x1x4 : Shape := ⟨3, ![256, 1, 4]⟩
abbrev S256x32x16x1 : Shape := ⟨4, ![256, 32, 16, 1]⟩
abbrev S32x256x1x16 : Shape := ⟨4, ![32, 256, 1, 16]⟩
abbrev S32x256x16 : Shape := ⟨3, ![32, 256, 16]⟩
abbrev S32x256 : Shape := ⟨2, ![32, 256]⟩
abbrev S32x16x16 : Shape := ⟨3, ![32, 16, 16]⟩

abbrev nBuf : Space → Nat
  | .hbm => 204
  | .vmem => 0
  | .smem => 0
  | _ => 0

abbrev hbmTy0_0 (i : Nat) : BufTy := match i % 128 with
  | 0 => ⟨S32x128, .f32⟩
  | 1 => ⟨S40960, .f32⟩
  | 2 => ⟨S32768, .f32⟩
  | 3 => ⟨S8192, .f32⟩
  | 4 => ⟨S4x5120, .f32⟩
  | 5 => ⟨S4x4096, .f32⟩
  | 6 => ⟨S4x1024, .f32⟩
  | 7 => ⟨S5120, .f32⟩
  | 8 => ⟨S4096, .f32⟩
  | 9 => ⟨S1024, .f32⟩
  | 10 => ⟨S_, .f32⟩
  | 11 => ⟨S32x128x4, .f32⟩
  | 12 => ⟨S32x128x1, .f32⟩
  | 13 => ⟨S32x128x5, .f32⟩
  | 14 => ⟨S1x32x1x128x1x5, .f32⟩
  | 15 => ⟨S1x32x1x128x2048x5, .f32⟩
  | 16 => ⟨S32x128x10240, .f32⟩
  | 17 => ⟨S32x10240x128, .f32⟩
  | 18 => ⟨S2048x4x5, .f32⟩
  | 19 => ⟨S32x2048x5x128, .f32⟩
  | 20 => ⟨S2048x32x128x4, .f32⟩
  | 21 => ⟨S32x2048x4x128, .f32⟩
  | 22 => ⟨S32x8192x128, .f32⟩
  | 23 => ⟨S2048x4x4, .f32⟩
  | 24 => ⟨S32x2048x4x128, .f32⟩
  | 25 => ⟨S2048x32x128x4, .f32⟩
  | 26 => ⟨S32x2048x4x128, .f32⟩
  | 27 => ⟨S32x8192x128, .f32⟩
  | 28 => ⟨S2048x1x4, .f32⟩
  | 29 => ⟨S32x2048x4x128, .f32⟩
  | 30 => ⟨S2048x32x128x1, .f32⟩
  | 31 => ⟨S32x2048x1x128, .f32⟩
  | 32 => ⟨S32x2048x128, .f32⟩
  | 33 => ⟨S_, .f32⟩
  | 34 => ⟨S32x2048, .f32⟩
  | 35 => ⟨S32x16x128, .f32⟩
  | 36 => ⟨S_, .f32⟩
  | 37 => ⟨S32x16, .f32⟩
  | 38 => ⟨S1x5120, .f32⟩
  | 39 => ⟨S5120, .f32⟩
  | 40 => ⟨S1x4096, .f32⟩
  | 41 => ⟨S4096, .f32⟩
  | 42 => ⟨S1x1024, .f32⟩
  | 43 => ⟨S1024, .f32⟩
  | 44 => ⟨S_, .f32⟩
  | 45 => ⟨S32x16x4, .f32⟩
  | 46 => ⟨S32x16x1, .f32⟩
  | 47 => ⟨S32x16x5, .f32⟩
  | 48 => ⟨S1x32x1x16x1x5, .f32⟩
  | 49 => ⟨S1x32x1x16x256x5, .f32⟩
  | 50 => ⟨S32x16x1280, .f32⟩
  | 51 => ⟨S32x1280x16, .f32⟩
  | 52 => ⟨S256x4x5, .f32⟩
  | 53 => ⟨S32x256x5x16, .f32⟩
  | 54 => ⟨S256x32x16x4, .f32⟩
  | 55 => ⟨S32x256x4x16, .f32⟩
  | 56 => ⟨S32x1024x16, .f32⟩
  | 57 => ⟨S256x4x4, .f32⟩
  | 58 => ⟨S32x256x4x16, .f32⟩
  | 59 => ⟨S256x32x16x4, .f32⟩
  | 60 => ⟨S32x256x4x16, .f32⟩
  | 61 => ⟨S32x1024x16, .f32⟩
  | 62 => ⟨S256x1x4, .f32⟩
  | 63 => ⟨S32x256x4x16, .f32⟩
  | 64 => ⟨S256x32x16x1, .f32⟩
  | 65 => ⟨S32x256x1x16, .f32⟩
  | 66 => ⟨S32x256x16, .f32⟩
  | 67 => ⟨S_, .f32⟩
  | 68 => ⟨S32x256, .f32⟩
  | 69 => ⟨S32x16x16, .f32⟩
  | 70 => ⟨S_, .f32⟩
  | 71 => ⟨S32x16, .f32⟩
  | 72 => ⟨S1x5120, .f32⟩
  | 73 => ⟨S5120, .f32⟩
  | 74 => ⟨S1x4096, .f32⟩
  | 75 => ⟨S4096, .f32⟩
  | 76 => ⟨S1x1024, .f32⟩
  | 77 => ⟨S1024, .f32⟩
  | 78 => ⟨S_, .f32⟩
  | 79 => ⟨S32x16x4, .f32⟩
  | 80 => ⟨S32x16x1, .f32⟩
  | 81 => ⟨S32x16x5, .f32⟩
  | 82 => ⟨S1x32x1x16x1x5, .f32⟩
  | 83 => ⟨S1x32x1x16x256x5, .f32⟩
  | 84 => ⟨S32x16x1280, .f32⟩
  | 85 => ⟨S32x1280x16, .f32⟩
  | 86 => ⟨S256x4x5, .f32⟩
  | 87 => ⟨S32x256x5x16, .f32⟩
  | 88 => ⟨S256x32x16x4, .f32⟩
  | 89 => ⟨S32x256x4x16, .f32⟩
  | 90 => ⟨S32x1024x16, .f32⟩
  | 91 => ⟨S256x4x4, .f32⟩
  | 92 => ⟨S32x256x4x16, .f32⟩
  | 93 => ⟨S256x32x16x4, .f32⟩
  | 94 => ⟨S32x256x4x16, .f32⟩
  | 95 => ⟨S32x1024x16, .f32⟩
  | 96 => ⟨S256x1x4, .f32⟩
  | 97 => ⟨S32x256x4x16, .f32⟩
  | 98 => ⟨S256x32x16x1, .f32⟩
  | 99 => ⟨S32x256x1x16, .f32⟩
  | 100 => ⟨S32x256x16, .f32⟩
  | 101 => ⟨S_, .f32⟩
  | 102 => ⟨S32x256, .f32⟩
  | 103 => ⟨S32x16x16, .f32⟩
  | 104 => ⟨S_, .f32⟩
  | 105 => ⟨S32x16, .f32⟩
  | 106 => ⟨S32x16, .f32⟩
  | 107 => ⟨S1x5120, .f32⟩
  | 108 => ⟨S5120, .f32⟩
  | 109 => ⟨S1x4096, .f32⟩
  | 110 => ⟨S4096, .f32⟩
  | 111 => ⟨S1x1024, .f32⟩
  | 112 => ⟨S1024, .f32⟩
  | 113 => ⟨S_, .f32⟩
  | 114 => ⟨S32x16x4, .f32⟩
  | 115 => ⟨S32x16x1, .f32⟩
  | 116 => ⟨S32x16x5, .f32⟩
  | 117 => ⟨S1x32x1x16x1x5, .f32⟩
  | 118 => ⟨S1x32x1x16x256x5, .f32⟩
  | 119 => ⟨S32x16x1280, .f32⟩
  | 120 => ⟨S32x1280x16, .f32⟩
  | 121 => ⟨S256x4x5, .f32⟩
  | 122 => ⟨S32x256x5x16, .f32⟩
  | 123 => ⟨S256x32x16x4, .f32⟩
  | 124 => ⟨S32x256x4x16, .f32⟩
  | 125 => ⟨S32x1024x16, .f32⟩
  | 126 => ⟨S256x4x4, .f32⟩
  | 127 => ⟨S32x256x4x16, .f32⟩
  | _ => ⟨S32x128, .f32⟩

abbrev hbmTy0_1 (i : Nat) : BufTy := match i % 128 with
  | 0 => ⟨S256x32x16x4, .f32⟩
  | 1 => ⟨S32x256x4x16, .f32⟩
  | 2 => ⟨S32x1024x16, .f32⟩
  | 3 => ⟨S256x1x4, .f32⟩
  | 4 => ⟨S32x256x4x16, .f32⟩
  | 5 => ⟨S256x32x16x1, .f32⟩
  | 6 => ⟨S32x256x1x16, .f32⟩
  | 7 => ⟨S32x256x16, .f32⟩
  | 8 => ⟨S_, .f32⟩
  | 9 => ⟨S32x256, .f32⟩
  | 10 => ⟨S32x16x16, .f32⟩
  | 11 => ⟨S_, .f32⟩
  | 12 => ⟨S32x16, .f32⟩
  | 13 => ⟨S1x5120, .f32⟩
  | 14 => ⟨S5120, .f32⟩
  | 15 => ⟨S1x4096, .f32⟩
  | 16 => ⟨S4096, .f32⟩
  | 17 => ⟨S1x1024, .f32⟩
  | 18 => ⟨S1024, .f32⟩
  | 19 => ⟨S_, .f32⟩
  | 20 => ⟨S32x16x4, .f32⟩
  | 21 => ⟨S32x16x1, .f32⟩
  | 22 => ⟨S32x16x5, .f32⟩
  | 23 => ⟨S1x32x1x16x1x5, .f32⟩
  | 24 => ⟨S1x32x1x16x256x5, .f32⟩
  | 25 => ⟨S32x16x1280, .f32⟩
  | 26 => ⟨S32x1280x16, .f32⟩
  | 27 => ⟨S256x4x5, .f32⟩
  | 28 => ⟨S32x256x5x16, .f32⟩
  | 29 => ⟨S256x32x16x4, .f32⟩
  | 30 => ⟨S32x256x4x16, .f32⟩
  | 31 => ⟨S32x1024x16, .f32⟩
  | 32 => ⟨S256x4x4, .f32⟩
  | 33 => ⟨S32x256x4x16, .f32⟩
  | 34 => ⟨S256x32x16x4, .f32⟩
  | 35 => ⟨S32x256x4x16, .f32⟩
  | 36 => ⟨S32x1024x16, .f32⟩
  | 37 => ⟨S256x1x4, .f32⟩
  | 38 => ⟨S32x256x4x16, .f32⟩
  | 39 => ⟨S256x32x16x1, .f32⟩
  | 40 => ⟨S32x256x1x16, .f32⟩
  | 41 => ⟨S32x256x16, .f32⟩
  | 42 => ⟨S_, .f32⟩
  | 43 => ⟨S32x256, .f32⟩
  | 44 => ⟨S32x16x16, .f32⟩
  | 45 => ⟨S_, .f32⟩
  | 46 => ⟨S32x16, .f32⟩
  | 47 => ⟨S32x16, .f32⟩
  | 48 => ⟨S_, .f32⟩
  | 49 => ⟨S32x16x4, .f32⟩
  | 50 => ⟨S32x16x1, .f32⟩
  | 51 => ⟨S32x16x5, .f32⟩
  | 52 => ⟨S1x32x1x16x1x5, .f32⟩
  | 53 => ⟨S1x32x1x16x256x5, .f32⟩
  | 54 => ⟨S32x16x1280, .f32⟩
  | 55 => ⟨S32x1280x16, .f32⟩
  | 56 => ⟨S256x4x5, .f32⟩
  | 57 => ⟨S32x256x5x16, .f32⟩
  | 58 => ⟨S256x32x16x4, .f32⟩
  | 59 => ⟨S32x256x4x16, .f32⟩
  | 60 => ⟨S32x1024x16, .f32⟩
  | 61 => ⟨S256x4x4, .f32⟩
  | 62 => ⟨S32x256x4x16, .f32⟩
  | 63 => ⟨S256x32x16x4, .f32⟩
  | 64 => ⟨S32x256x4x16, .f32⟩
  | 65 => ⟨S32x1024x16, .f32⟩
  | 66 => ⟨S256x1x4, .f32⟩
  | 67 => ⟨S32x256x4x16, .f32⟩
  | 68 => ⟨S256x32x16x1, .f32⟩
  | 69 => ⟨S32x256x1x16, .f32⟩
  | 70 => ⟨S32x256x16, .f32⟩
  | 71 => ⟨S_, .f32⟩
  | 72 => ⟨S32x256, .f32⟩
  | 73 => ⟨S32x16x16, .f32⟩
  | 74 => ⟨S_, .f32⟩
  | 75 => ⟨S32x16, .f32⟩
  | _ => ⟨S32x128, .f32⟩

abbrev hbmTy (i : Nat) : BufTy := match i / 128 with
  | 0 => hbmTy0_0 i
  | 1 => hbmTy0_1 i
  | _ => ⟨S32x128, .f32⟩

abbrev bufTy : (tb : Table) → Fin (tcTables nBuf tb) → BufTy
  | .hbm, ⟨i, _⟩ => hbmTy i
  | _, _ => ⟨S32x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_0 : Ref sig .tc := ⟨.hbm, 33, rfl⟩
abbrev main_v22 : Ref sig .tc := ⟨.hbm, 34, rfl⟩
abbrev main_v23 : Ref sig .tc := ⟨.hbm, 35, rfl⟩
abbrev main_cst_1 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_2 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_cst_3 : Ref sig .tc := ⟨.hbm, 67, rfl⟩
abbrev main_v53 : Ref sig .tc := ⟨.hbm, 68, rfl⟩
abbrev main_v54 : Ref sig .tc := ⟨.hbm, 69, rfl⟩
abbrev main_cst_4 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_cst_5 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_cst_6 : Ref sig .tc := ⟨.hbm, 101, rfl⟩
abbrev main_v84 : Ref sig .tc := ⟨.hbm, 102, rfl⟩
abbrev main_v85 : Ref sig .tc := ⟨.hbm, 103, rfl⟩
abbrev main_cst_7 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_cst_8 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_v111 : Ref sig .tc := ⟨.hbm, 131, rfl⟩
abbrev main_v112 : Ref sig .tc := ⟨.hbm, 132, rfl⟩
abbrev main_v113 : Ref sig .tc := ⟨.hbm, 133, rfl⟩
abbrev main_v114 : Ref sig .tc := ⟨.hbm, 134, rfl⟩
abbrev main_v115 : Ref sig .tc := ⟨.hbm, 135, rfl⟩
abbrev main_cst_9 : Ref sig .tc := ⟨.hbm, 136, rfl⟩
abbrev main_v116 : Ref sig .tc := ⟨.hbm, 137, rfl⟩
abbrev main_v117 : Ref sig .tc := ⟨.hbm, 138, rfl⟩
abbrev main_cst_10 : Ref sig .tc := ⟨.hbm, 139, rfl⟩
abbrev main_v118 : Ref sig .tc := ⟨.hbm, 140, rfl⟩
abbrev main_v119 : Ref sig .tc := ⟨.hbm, 141, rfl⟩
abbrev main_v120 : Ref sig .tc := ⟨.hbm, 142, rfl⟩
abbrev main_v121 : Ref sig .tc := ⟨.hbm, 143, rfl⟩
abbrev main_v122 : Ref sig .tc := ⟨.hbm, 144, rfl⟩
abbrev main_v123 : Ref sig .tc := ⟨.hbm, 145, rfl⟩
abbrev main_v124 : Ref sig .tc := ⟨.hbm, 146, rfl⟩
abbrev main_cst_11 : Ref sig .tc := ⟨.hbm, 147, rfl⟩
abbrev main_v125 : Ref sig .tc := ⟨.hbm, 148, rfl⟩
abbrev main_v126 : Ref sig .tc := ⟨.hbm, 149, rfl⟩
abbrev main_v127 : Ref sig .tc := ⟨.hbm, 150, rfl⟩
abbrev main_v128 : Ref sig .tc := ⟨.hbm, 151, rfl⟩
abbrev main_v129 : Ref sig .tc := ⟨.hbm, 152, rfl⟩
abbrev main_v130 : Ref sig .tc := ⟨.hbm, 153, rfl⟩
abbrev main_v131 : Ref sig .tc := ⟨.hbm, 154, rfl⟩
abbrev main_v132 : Ref sig .tc := ⟨.hbm, 155, rfl⟩
abbrev main_v133 : Ref sig .tc := ⟨.hbm, 156, rfl⟩
abbrev main_v134 : Ref sig .tc := ⟨.hbm, 157, rfl⟩
abbrev main_v135 : Ref sig .tc := ⟨.hbm, 158, rfl⟩
abbrev main_v136 : Ref sig .tc := ⟨.hbm, 159, rfl⟩
abbrev main_v137 : Ref sig .tc := ⟨.hbm, 160, rfl⟩
abbrev main_v138 : Ref sig .tc := ⟨.hbm, 161, rfl⟩
abbrev main_v139 : Ref sig .tc := ⟨.hbm, 162, rfl⟩
abbrev main_v140 : Ref sig .tc := ⟨.hbm, 163, rfl⟩
abbrev main_v141 : Ref sig .tc := ⟨.hbm, 164, rfl⟩
abbrev main_v142 : Ref sig .tc := ⟨.hbm, 165, rfl⟩
abbrev main_v143 : Ref sig .tc := ⟨.hbm, 166, rfl⟩
abbrev main_v144 : Ref sig .tc := ⟨.hbm, 167, rfl⟩
abbrev main_v145 : Ref sig .tc := ⟨.hbm, 168, rfl⟩
abbrev main_v146 : Ref sig .tc := ⟨.hbm, 169, rfl⟩
abbrev main_cst_12 : Ref sig .tc := ⟨.hbm, 170, rfl⟩
abbrev main_v147 : Ref sig .tc := ⟨.hbm, 171, rfl⟩
abbrev main_v148 : Ref sig .tc := ⟨.hbm, 172, rfl⟩
abbrev main_cst_13 : Ref sig .tc := ⟨.hbm, 173, rfl⟩
abbrev main_v149 : Ref sig .tc := ⟨.hbm, 174, rfl⟩
abbrev main_v150 : Ref sig .tc := ⟨.hbm, 175, rfl⟩
abbrev main_cst_14 : Ref sig .tc := ⟨.hbm, 176, rfl⟩
abbrev main_v151 : Ref sig .tc := ⟨.hbm, 177, rfl⟩
abbrev main_v152 : Ref sig .tc := ⟨.hbm, 178, rfl⟩
abbrev main_v153 : Ref sig .tc := ⟨.hbm, 179, rfl⟩
abbrev main_v154 : Ref sig .tc := ⟨.hbm, 180, rfl⟩
abbrev main_v155 : Ref sig .tc := ⟨.hbm, 181, rfl⟩
abbrev main_v156 : Ref sig .tc := ⟨.hbm, 182, rfl⟩
abbrev main_v157 : Ref sig .tc := ⟨.hbm, 183, rfl⟩
abbrev main_v158 : Ref sig .tc := ⟨.hbm, 184, rfl⟩
abbrev main_v159 : Ref sig .tc := ⟨.hbm, 185, rfl⟩
abbrev main_v160 : Ref sig .tc := ⟨.hbm, 186, rfl⟩
abbrev main_v161 : Ref sig .tc := ⟨.hbm, 187, rfl⟩
abbrev main_v162 : Ref sig .tc := ⟨.hbm, 188, rfl⟩
abbrev main_v163 : Ref sig .tc := ⟨.hbm, 189, rfl⟩
abbrev main_v164 : Ref sig .tc := ⟨.hbm, 190, rfl⟩
abbrev main_v165 : Ref sig .tc := ⟨.hbm, 191, rfl⟩
abbrev main_v166 : Ref sig .tc := ⟨.hbm, 192, rfl⟩
abbrev main_v167 : Ref sig .tc := ⟨.hbm, 193, rfl⟩
abbrev main_v168 : Ref sig .tc := ⟨.hbm, 194, rfl⟩
abbrev main_v169 : Ref sig .tc := ⟨.hbm, 195, rfl⟩
abbrev main_v170 : Ref sig .tc := ⟨.hbm, 196, rfl⟩
abbrev main_v171 : Ref sig .tc := ⟨.hbm, 197, rfl⟩
abbrev main_v172 : Ref sig .tc := ⟨.hbm, 198, rfl⟩
abbrev main_cst_15 : Ref sig .tc := ⟨.hbm, 199, rfl⟩
abbrev main_v173 : Ref sig .tc := ⟨.hbm, 200, rfl⟩
abbrev main_v174 : Ref sig .tc := ⟨.hbm, 201, rfl⟩
abbrev main_cst_16 : Ref sig .tc := ⟨.hbm, 202, rfl⟩
abbrev main_v175 : Ref sig .tc := ⟨.hbm, 203, rfl⟩

abbrev nD : Nat := 1
abbrev τ : Topo := Topo.v7x

variable {F : FTy → Type} [FloatOps F]
-- ==== Proof.Points.lean ====
/- The grid's points for the idealized kernel's body: which branch each point takes, and the buffers the body works on. -/
module

public import proofs.«01_k».proof.Proof.Gen.KernelIdeal.Frame
public import Idealize.ShloMosaic.Lib.Pipeline.FrameBody
public import Idealize.ShloMosaic.Lib.Pipeline.Value
public import Idealize.ShloMosaic.Lib.Ring
public import Idealize.ShloMosaic.Lib.Tactic
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Which branch a point takes -/

/-- The body computes a row at this point. -/
abbrev early (i : grid0.Coords) : Prop := k0_cond1 i = 1#1

/-- It does so at the first sixteen points. -/
theorem early_iff : ∀ t : Fin cfg0.N, early (grid0.coords t) ↔ t.val < 16 :=
  (by decide +kernel : ∀ t : Fin grid0.N, early (grid0.coords t) ↔ t.val < 16)

/-- The body computes the output block at this point. -/
abbrev atEnd (i : grid0.Coords) : Prop := k0_cond2 i = 1#1

/-- It does so at the seventeenth point alone. -/
theorem atEnd_iff : ∀ t : Fin cfg0.N, atEnd (grid0.coords t) ↔ t.val = 16 :=
  (by decide +kernel : ∀ t : Fin grid0.N, atEnd (grid0.coords t) ↔ t.val = 16)

/-- Every window but the output's takes part at every point. -/
theorem inputs_live : ∀ (w : Fin cfg0.W) (t : Fin cfg0.N), w.val < 10 → cfg0.idle w (grid0.coords t) = false :=
  (by decide +kernel : ∀ (w : Fin cfg0.W) (t : Fin grid0.N), w.val < 10 → cfg0.idle w (grid0.coords t) = false)

/-! ## The buffers -/

/-- The buffer that window 0's block occupies at point `t`. -/
abbrev buf0 (t : Fin cfg0.N) : Memref sig .tc .vmem S32x128 .f32 := win0_0.stage (cfg0.slots t 0)
/-- The buffer that window 1's block occupies at point `t`. -/
abbrev buf1 (t : Fin cfg0.N) : Memref sig .tc .vmem S128x20 .f32 := win0_1.stage (cfg0.slots t 1)
/-- The buffer that window 2's block occupies at point `t`. -/
abbrev buf2 (t : Fin cfg0.N) : Memref sig .tc .vmem S128x16 .f32 := win0_2.stage (cfg0.slots t 2)
/-- The buffer that window 3's block occupies at point `t`. -/
abbrev buf3 (t : Fin cfg0.N) : Memref sig .tc .vmem S128x4 .f32 := win0_3.stage (cfg0.slots t 3)
/-- The buffer that window 4's block occupies at point `t`. -/
abbrev buf4 (t : Fin cfg0.N) : Memref sig .tc .vmem S4x4x256 .f32 := win0_4.stage (cfg0.slots t 4)
/-- The buffer that window 5's block occupies at point `t`. -/
abbrev buf5 (t : Fin cfg0.N) : Memref sig .tc .vmem S4x4x4x256 .f32 := win0_5.stage (cfg0.slots t 5)
/-- The buffer that window 6's block occupies at point `t`. -/
abbrev buf6 (t : Fin cfg0.N) : Memref sig .tc .vmem S4x4x256 .f32 := win0_6.stage (cfg0.slots t 6)
/-- The buffer that window 7's block occupies at point `t`. -/
abbrev buf7 (t : Fin cfg0.N) : Memref sig .tc .vmem S4x256 .f32 := win0_7.stage (cfg0.slots t 7)
/-- The buffer that window 8's block occupies at point `t`. -/
abbrev buf8 (t : Fin cfg0.N) : Memref sig .tc .vmem S4x4x256 .f32 := win0_8.stage (cfg0.slots t 8)
/-- The buffer that window 9's block occupies at point `t`. -/
abbrev buf9 (t : Fin cfg0.N) : Memref sig .tc .vmem S4x256 .f32 := win0_9.stage (cfg0.slots t 9)
/-- The buffer that window 10's block occupies at point `t`. -/
abbrev buf10 (t : Fin cfg0.N) : Memref sig .tc .vmem S32x16 .f32 := win0_10.stage (cfg0.slots t 10)

/-- The scratch buffer of sixteen rows. -/
abbrev rowsBuf : Memref sig .tc .vmem S16x32 .f32 := Memref.whole cc0_scratch0

/-- What the launch carries between points when nothing is said of its contents: the scratch buffer and the generator's
    register. -/
theorem carried_eq (c : Dev nD) : (Pipeline.ΦA spec0 c : sProp 𝕄)
    = iprop(iprop((∃ d, owns (c : Thread nD τ) rowsBuf fullShare d)) ∗ (∃ r, prngReg c r)) := by
  unfold Pipeline.ΦA
  rw [scopedRest0_eq]
  simp only [rowsBuf, owns_whole]
  rfl

end Cert.KernelIdeal.Gen

end
-- ==== Proof.Segment.lean ====
/- The one row of the scratch buffer that a grid point before the last computes: a composition of the vector
   expressions the body evaluates, over the blocks it loads. -/
module

public import proofs.«01_k».proof.Proof.Gen.KernelIdeal.Skeleton
public import Idealize.ShloMosaic.Lib.Pipeline.Value
public import Idealize.ShloMosaic.Lib.WholeRead

@[expose] public section

set_option maxRecDepth 16384

noncomputable section

namespace Cert.KernelIdeal.Gen

open Idealize.ShloMosaic

variable {F : FTy → Type} [FloatOps F]

/-- The row stored at a point before the last, over the block `x` of inputs, the columns `a c` of the first weights, the
    columns `b c r` of the second weights and the columns `e r` of the third ones. -/
def segRow (x : Vec F S32x128 .f32) (a : Fin 4 → Vec F S128x1 .f32) (b : Fin 4 → Fin 4 → Vec F S128x1 .f32)
    (e : Fin 4 → Vec F S128x1 .f32) : FVec F S1x32 .f32 :=
  let v10 := k0_pay3 x
  let v25 := k0_pay4 x (a 0)
  let v40 := k0_pay5 x (a 1)
  let v55 := k0_pay7 (k0_pay6 x (a 2))
  let v70 := k0_pay8 v10 (a 3)
  let v89 := k0_pay9 v25 v40 (b 0 0) (b 0 1)
  let v97 := k0_pay10 (b 0 2)
  let v122 := k0_pay11 v55 v70 v89 v97 (b 0 3) (e 0)
  let v141 := k0_pay12 v25 v40 (b 1 0) (b 1 1)
  let v175 := k0_pay13 v55 v70 v122 v141 (b 1 2) (b 1 3) (e 1)
  let v184 := k0_pay14 v25 (b 2 0)
  let v186 := k0_pay15 (b 2 1)
  let v188 := k0_pay16 (b 2 1)
  let v228 := k0_pay17 v40 v55 v70 v175 v184 v186 v188 (b 2 2) (b 2 3) (e 2)
  let v235 := k0_pay18 (b 3 0)
  let v281 := k0_pay19 v25 v40 v55 v70 v228 v235 (b 3 1) (b 3 2) (b 3 3) (e 3)
  let v282 := k0_pay20 v25 v40 v55 v70 v228 v235 (b 3 1) (b 3 2) (b 3 3) (e 3)
  k0_pay1 v281 v282

/-- The same row over the whole blocks: the body loads the columns one by one. -/
def segBlock (x0 : Vec F S32x128 .f32) (x1 : Vec F S128x20 .f32) (x2 : Vec F S128x16 .f32) (x3 : Vec F S128x4 .f32) :
    FVec F S1x32 .f32 :=
  segRow x0
    ![View.ld x1 (Rect.unit ![0, 4] S128x1.size inb_S128x20_S128x1_0_4),
      View.ld x1 (Rect.unit ![0, 9] S128x1.size inb_S128x20_S128x1_0_9),
      View.ld x1 (Rect.unit ![0, 14] S128x1.size inb_S128x20_S128x1_0_14),
      View.ld x1 (Rect.unit ![0, 19] S128x1.size inb_S128x20_S128x1_0_19)]
    ![![View.ld x2 (Rect.unit ![0, 0] S128x1.size inb_S128x16_S128x1_0_0),
        View.ld x2 (Rect.unit ![0, 1] S128x1.size inb_S128x16_S128x1_0_1),
        View.ld x2 (Rect.unit ![0, 2] S128x1.size inb_S128x16_S128x1_0_2),
        View.ld x2 (Rect.unit ![0, 3] S128x1.size inb_S128x16_S128x1_0_3)],
      ![View.ld x2 (Rect.unit ![0, 4] S128x1.size inb_S128x16_S128x1_0_4),
        View.ld x2 (Rect.unit ![0, 5] S128x1.size inb_S128x16_S128x1_0_5),
        View.ld x2 (Rect.unit ![0, 6] S128x1.size inb_S128x16_S128x1_0_6),
        View.ld x2 (Rect.unit ![0, 7] S128x1.size inb_S128x16_S128x1_0_7)],
      ![View.ld x2 (Rect.unit ![0, 8] S128x1.size inb_S128x16_S128x1_0_8),
        View.ld x2 (Rect.unit ![0, 9] S128x1.size inb_S128x16_S128x1_0_9),
        View.ld x2 (Rect.unit ![0, 10] S128x1.size inb_S128x16_S128x1_0_10),
        View.ld x2 (Rect.unit ![0, 11] S128x1.size inb_S128x16_S128x1_0_11)],
      ![View.ld x2 (Rect.unit ![0, 12] S128x1.size inb_S128x16_S128x1_0_12),
        View.ld x2 (Rect.unit ![0, 13] S128x1.size inb_S128x16_S128x1_0_13),
        View.ld x2 (Rect.unit ![0, 14] S128x1.size inb_S128x16_S128x1_0_14),
        View.ld x2 (Rect.unit ![0, 15] S128x1.size inb_S128x16_S128x1_0_15)]]
    ![View.ld x3 (Rect.unit ![0, 0] S128x1.size inb_S128x4_S128x1_0_0),
      View.ld x3 (Rect.unit ![0, 1] S128x1.size inb_S128x4_S128x1_0_1),
      View.ld x3 (Rect.unit ![0, 2] S128x1.size inb_S128x4_S128x1_0_2),
      View.ld x3 (Rect.unit ![0, 3] S128x1.size inb_S128x4_S128x1_0_3)]

/-- A load through a whole memref held at the contents that read `X` reads `X` at the load's rectangle. -/
theorem readAt_ld {sig : RefSig} {Val : EltTy → Type} {κ : Kind} {sp : Space} {s : Shape} {e : EltTy}
    {m : Memref sig κ sp s e} (h : m.IsWhole) (X : s.Idx → Val e) (R : Rect s) :
    View.readAt Val m.view R.toLoadRect (h.unread X) = View.ld X R :=
  funext fun x => h.readAt_unread X R.toLoadRect x

end Cert.KernelIdeal.Gen

end
-- ==== Proof.RunA.lean ====
/- The body at a point before the last: it stores one row of the scratch buffer and leaves its other buffers as it
   found them. -/
module

public import proofs.«01_k».proof.Proof.Points
public import proofs.«01_k».proof.Proof.Segment
public import Idealize.ShloMosaic.Lib.VecWindow

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
theorem runA (c : Dev nD) (i : grid0.Coords) (arg1 : Memref sig .tc .vmem S32x128 .f32) (harg1 : arg1.IsWhole) (arg2 : Memref sig .tc .vmem S128x20 .f32) (harg2 : arg2.IsWhole) (arg3 : Memref sig .tc .vmem S128x16 .f32) (harg3 : arg3.IsWhole) (arg4 : Memref sig .tc .vmem S128x4 .f32) (harg4 : arg4.IsWhole) (arg5 : Memref sig .tc .vmem S4x4x256 .f32) (harg5 : arg5.IsWhole) (arg6 : Memref sig .tc .vmem S4x4x4x256 .f32) (harg6 : arg6.IsWhole) (arg7 : Memref sig .tc .vmem S4x4x256 .f32) (harg7 : arg7.IsWhole) (arg8 : Memref sig .tc .vmem S4x256 .f32) (harg8 : arg8.IsWhole) (arg9 : Memref sig .tc .vmem S4x4x256 .f32) (harg9 : arg9.IsWhole) (arg10 : Memref sig .tc .vmem S4x256 .f32) (harg10 : arg10.IsWhole) (arg11 : Memref sig .tc .vmem S32x16 .f32) (harg11 : arg11.IsWhole) (arg12 : Memref sig .tc .vmem S16x32 .f32) (harg12 : arg12.IsWhole) (hc0 : early i) (hc1 : ¬atEnd i)
    (x0 : Vec F S32x128 .f32) (x1 : Vec F S128x20 .f32) (x2 : Vec F S128x16 .f32) (x3 : Vec F S128x4 .f32) (xs : Vec F S16x32 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg12 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg12 fullShare (VecWindow.put xs (k0_off1 i) S1x32.size (segBlock x0 x1 x2 x3))) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12) K := by
    intro E K
    simp only [cc0__body_eq_skeleton]; unfold cc0__body_skel
    simp only [k0_part1_eq_skeleton, k0_part2_eq_skeleton, k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg1.eq_unread hf0; obtain rfl := harg2.eq_unread hf1; obtain rfl := harg3.eq_unread hf2; obtain rfl := harg4.eq_unread hf3; obtain rfl := harg12.eq_unread hfs0
    sl_exec (disch := first | sl_exact hc0 | sl_exact hc1)
    sl_step
    iapply Hk
    isplitl [H0]
    · iexists _; isplitr [H0]; · ipureintro; exact harg1.read_unread _
      · iexact H0
    isplitl [H1]
    · iexists _; isplitr [H1]; · ipureintro; exact harg2.read_unread _
      · iexact H1
    isplitl [H2]
    · iexists _; isplitr [H2]; · ipureintro; exact harg3.read_unread _
      · iexact H2
    isplitl [H3]
    · iexists _; isplitr [H3]; · ipureintro; exact harg4.read_unread _
      · iexact H3
    iexists _; isplitr [HS0]; swap
    · iexact HS0
    · ipureintro
      refine (View.read_writes_cons_put _ _ _ _ _ rfl).trans ?_
      have e : arg12.view.read (Elt F) (arg12.view.writes (Elt F) (harg12.unread xs) []) = xs := harg12.read_unread xs
      rw [e]
      refine congrArg (VecWindow.put xs (k0_off1 i) S1x32.size) ?_
      unfold segBlock
      simp only [← readAt_ld harg2, ← readAt_ld harg3, ← readAt_ld harg4]
      have e0 : View.readAt (Elt F) arg1.view (Rect.unit ![0, 0] S32x128.size inb_S32x128_S32x128_0_0).toLoadRect (harg1.unread x0) = x0 :=
        (readAt_ld harg1 _ _).trans (View.ld_unit_zero (by funext a; fin_cases a <;> rfl) _ x0)
      have e1 := congrArg (fun x => segRow (F := F) x) e0.symm
      simp only at e1
      rw [e1]
      rfl

end Cert.KernelIdeal.Gen

end
-- ==== Proof.Tail.lean ====
/- The block the last grid point stores: a composition of the vector expressions the body evaluates, over the scratch
   buffer and the blocks of later weights it loads. -/
module

public import proofs.«01_k».proof.Proof.Segment

@[expose] public section

set_option maxRecDepth 16384

noncomputable section

namespace Cert.KernelIdeal.Gen

open Idealize.ShloMosaic

variable {F : FTy → Type} [FloatOps F]

/-- The first hidden layer over the scratch buffer `s`, its last sum over an axis begun but not yet finished. -/
def hid0 (s : Vec F S16x32 .f32) (p : Vec F S1x4x256 .f32) (q : Vec F S1x4x4x256 .f32) (r : Vec F S1x4x256 .f32) :
    FVec F S32x16x8 .f32 :=
  let v13 := k0_pay22 p
  let v19 := k0_pay23 q
  let v25 := k0_pay24 r
  let v29 := k0_pay25 s
  let v40 := k0_pay26 s p
  let v47 := k0_pay27 s p
  let c17 : F .f32 := Scalar.ofBits .f32 0x47800080#32
  let v51 := k0_pay28 v47 c17
  let v62 := k0_pay29 v13 v29
  let v73 := k0_pay30 v13 v29
  let v103 := k0_pay31 v13 v19 v29 v40 v47 c17
  let v104 := k0_pay32 v25
  let v138 := k0_pay33 v19 v25 v40 v51 v62 v73 v103 v104
  let v161 := k0_pay34 v19 v40 v51 v62 v73
  let v163 := k0_pay35 v25
  k0_pay36 v19 v25 v40 v51 v62 v73 v138 v161 v163

/-- The expression `hid0`, from its intermediate vectors given one by one. -/
theorem hid0_of (s : Vec F S16x32 .f32) (p : Vec F S1x4x256 .f32) (q : Vec F S1x4x4x256 .f32) (r : Vec F S1x4x256 .f32)
    {v13 v25 : FVec F S4x256 .f32} {v19 : FVec F S4x4x256 .f32} {v29 : FVec F S32x16 .f32} {v40 v47 v51 v62 v73 v103 v104 v138 v161 : FVec F S32x16x256 .f32} {c17 : F .f32} {v163 : FVec F S256 .f32}
    (hv13 : v13 = k0_pay22 p) (hv19 : v19 = k0_pay23 q) (hv25 : v25 = k0_pay24 r)
    (hv29 : v29 = k0_pay25 s) (hv40 : v40 = k0_pay26 s p) (hv47 : v47 = k0_pay27 s p)
    (hc17 : c17 = Scalar.ofBits .f32 0x47800080#32) (hv51 : v51 = k0_pay28 v47 c17) (hv62 : v62 = k0_pay29 v13 v29)
    (hv73 : v73 = k0_pay30 v13 v29) (hv103 : v103 = k0_pay31 v13 v19 v29 v40 v47 c17) (hv104 : v104 = k0_pay32 v25)
    (hv138 : v138 = k0_pay33 v19 v25 v40 v51 v62 v73 v103 v104) (hv161 : v161 = k0_pay34 v19 v40 v51 v62 v73) (hv163 : v163 = k0_pay35 v25) :
    k0_pay36 v19 v25 v40 v51 v62 v73 v138 v161 v163 = hid0 s p q r := by
  subst_vars; rfl

/-- The second hidden layer over what the first one left: the two halves of a sum over an axis of length two. -/
def hid1 (v221 : FVec F S32x16x8 .f32) (p : Vec F S1x4x256 .f32) (q : Vec F S1x4x4x256 .f32) (r : Vec F S1x4x256 .f32) :
    FVec F S32x1x256 .f32 × FVec F S32x1x256 .f32 :=
  let v237 := k0_pay37 p
  let v243 := k0_pay38 q
  let v249 := k0_pay39 r
  let v253 := k0_pay40 v221
  let v264 := k0_pay41 v221 p
  let v266 := k0_pay42 p
  let v275 := k0_pay43 v253 v266
  let v286 := k0_pay44 v237 v253
  let v297 := k0_pay45 v237 v253
  let v320 := k0_pay46 v237 v243 v253 v264 v266
  let v323 := k0_pay47 v249
  let v362 := k0_pay48 v243 v249 v264 v275 v286 v297 v320 v323
  let v379 := k0_pay49 v243 v264 v275 v286
  let v381 := k0_pay50 v243
  (k0_pay52 v243 v249 v264 v275 v286 v297 v362 v379 v381, k0_pay53 v243 v249 v264 v275 v286 v297 v362 v379 v381)

/-- The first of the two vectors `hid1` gives, from its intermediate vectors given one by one. -/
theorem hid1_of_fst (v221 : FVec F S32x16x8 .f32) (p : Vec F S1x4x256 .f32) (q : Vec F S1x4x4x256 .f32) (r : Vec F S1x4x256 .f32)
    {v237 v249 : FVec F S4x256 .f32} {v243 : FVec F S4x4x256 .f32} {v253 : FVec F S32x16 .f32} {v264 v275 v286 v297 v320 v362 v379 : FVec F S32x16x256 .f32} {v266 v381 : FVec F S256 .f32} {v323 : FVec F S1x1x256 .f32}
    (hv237 : v237 = k0_pay37 p) (hv243 : v243 = k0_pay38 q) (hv249 : v249 = k0_pay39 r)
    (hv253 : v253 = k0_pay40 v221) (hv264 : v264 = k0_pay41 v221 p) (hv266 : v266 = k0_pay42 p)
    (hv275 : v275 = k0_pay43 v253 v266) (hv286 : v286 = k0_pay44 v237 v253) (hv297 : v297 = k0_pay45 v237 v253)
    (hv320 : v320 = k0_pay46 v237 v243 v253 v264 v266) (hv323 : v323 = k0_pay47 v249) (hv362 : v362 = k0_pay48 v243 v249 v264 v275 v286 v297 v320 v323)
    (hv379 : v379 = k0_pay49 v243 v264 v275 v286) (hv381 : v381 = k0_pay50 v243) :
    k0_pay52 v243 v249 v264 v275 v286 v297 v362 v379 v381 = (hid1 v221 p q r).1 := by
  subst_vars; rfl

/-- The second of the two vectors `hid1` gives, from its intermediate vectors given one by one. -/
theorem hid1_of_snd (v221 : FVec F S32x16x8 .f32) (p : Vec F S1x4x256 .f32) (q : Vec F S1x4x4x256 .f32) (r : Vec F S1x4x256 .f32)
    {v237 v249 : FVec F S4x256 .f32} {v243 : FVec F S4x4x256 .f32} {v253 : FVec F S32x16 .f32} {v264 v275 v286 v297 v320 v362 v379 : FVec F S32x16x256 .f32} {v266 v381 : FVec F S256 .f32} {v323 : FVec F S1x1x256 .f32}
    (hv237 : v237 = k0_pay37 p) (hv243 : v243 = k0_pay38 q) (hv249 : v249 = k0_pay39 r)
    (hv253 : v253 = k0_pay40 v221) (hv264 : v264 = k0_pay41 v221 p) (hv266 : v266 = k0_pay42 p)
    (hv275 : v275 = k0_pay43 v253 v266) (hv286 : v286 = k0_pay44 v237 v253) (hv297 : v297 = k0_pay45 v237 v253)
    (hv320 : v320 = k0_pay46 v237 v243 v253 v264 v266) (hv323 : v323 = k0_pay47 v249) (hv362 : v362 = k0_pay48 v243 v249 v264 v275 v286 v297 v320 v323)
    (hv379 : v379 = k0_pay49 v243 v264 v275 v286) (hv381 : v381 = k0_pay50 v243) :
    k0_pay53 v243 v249 v264 v275 v286 v297 v362 v379 v381 = (hid1 v221 p q r).2 := by
  subst_vars; rfl

/-- The third hidden layer over the transposed scratch buffer and the halves the second layer left: the operands of a
    sum over an axis begun. -/
def hid2 (v7 : FVec F S32x16 .f32) (v438 v439 : FVec F S32x1x256 .f32) (p : Vec F S1x4x256 .f32) (q : Vec F S1x4x4x256 .f32) (r : Vec F S1x4x256 .f32) :
    FVec F S32x8x256 .f32 × FVec F S32x4x256 .f32 :=
  let v462 := k0_pay55 p
  let v468 := k0_pay56 q
  let v474 := k0_pay57 r
  let v478 := k0_pay58 v7 v438 v439
  let v485 := k0_pay59 v7 v438 v439 p
  let v489 := k0_pay60 v485
  let v500 := k0_pay61 v462 v478
  let v511 := k0_pay62 v462 v478
  let v522 := k0_pay63 v462 v478
  let v539 := k0_pay64 v462 v468 v478 v485
  let v541 := k0_pay65 v468
  let v587 := k0_pay66 v468 v474 v489 v500 v511 v522 v539 v541
  let v598 := k0_pay67 v468 v489 v500
  let v599 := k0_pay68 v468
  (k0_pay69 v468 v474 v489 v500 v511 v522 v587 v598 v599, k0_pay70 v468 v474 v489 v500 v511 v522 v587 v598 v599)

/-- The first of the two vectors `hid2` gives, from its intermediate vectors given one by one. -/
theorem hid2_of_fst (v7 : FVec F S32x16 .f32) (v438 v439 : FVec F S32x1x256 .f32) (p : Vec F S1x4x256 .f32) (q : Vec F S1x4x4x256 .f32) (r : Vec F S1x4x256 .f32)
    {v462 v474 : FVec F S4x256 .f32} {v468 : FVec F S4x4x256 .f32} {v478 : FVec F S32x16 .f32} {v485 v489 v500 v511 v522 v539 v587 v598 : FVec F S32x16x256 .f32} {v541 : FVec F S256 .f32} {v599 : FVec F S1x1x256 .f32}
    (hv462 : v462 = k0_pay55 p) (hv468 : v468 = k0_pay56 q) (hv474 : v474 = k0_pay57 r)
    (hv478 : v478 = k0_pay58 v7 v438 v439) (hv485 : v485 = k0_pay59 v7 v438 v439 p) (hv489 : v489 = k0_pay60 v485)
    (hv500 : v500 = k0_pay61 v462 v478) (hv511 : v511 = k0_pay62 v462 v478) (hv522 : v522 = k0_pay63 v462 v478)
    (hv539 : v539 = k0_pay64 v462 v468 v478 v485) (hv541 : v541 = k0_pay65 v468) (hv587 : v587 = k0_pay66 v468 v474 v489 v500 v511 v522 v539 v541)
    (hv598 : v598 = k0_pay67 v468 v489 v500) (hv599 : v599 = k0_pay68 v468) :
    k0_pay69 v468 v474 v489 v500 v511 v522 v587 v598 v599 = (hid2 v7 v438 v439 p q r).1 := by
  subst_vars; rfl

/-- The second of the two vectors `hid2` gives, from its intermediate vectors given one by one. -/
theorem hid2_of_snd (v7 : FVec F S32x16 .f32) (v438 v439 : FVec F S32x1x256 .f32) (p : Vec F S1x4x256 .f32) (q : Vec F S1x4x4x256 .f32) (r : Vec F S1x4x256 .f32)
    {v462 v474 : FVec F S4x256 .f32} {v468 : FVec F S4x4x256 .f32} {v478 : FVec F S32x16 .f32} {v485 v489 v500 v511 v522 v539 v587 v598 : FVec F S32x16x256 .f32} {v541 : FVec F S256 .f32} {v599 : FVec F S1x1x256 .f32}
    (hv462 : v462 = k0_pay55 p) (hv468 : v468 = k0_pay56 q) (hv474 : v474 = k0_pay57 r)
    (hv478 : v478 = k0_pay58 v7 v438 v439) (hv485 : v485 = k0_pay59 v7 v438 v439 p) (hv489 : v489 = k0_pay60 v485)
    (hv500 : v500 = k0_pay61 v462 v478) (hv511 : v511 = k0_pay62 v462 v478) (hv522 : v522 = k0_pay63 v462 v478)
    (hv539 : v539 = k0_pay64 v462 v468 v478 v485) (hv541 : v541 = k0_pay65 v468) (hv587 : v587 = k0_pay66 v468 v474 v489 v500 v511 v522 v539 v541)
    (hv598 : v598 = k0_pay67 v468 v489 v500) (hv599 : v599 = k0_pay68 v468) :
    k0_pay70 v468 v474 v489 v500 v511 v522 v587 v598 v599 = (hid2 v7 v438 v439 p q r).2 := by
  subst_vars; rfl

/-- The fourth hidden layer over what the third one left, with the second layer's result `v456` added. -/
def hid3 (v456 : FVec F S32x16 .f32) (v656 : FVec F S32x8x256 .f32) (v657 : FVec F S32x4x256 .f32)
    (p : Vec F S1x4x256 .f32) (q : Vec F S1x4x4x256 .f32) (r : Vec F S1x4x256 .f32) : FVec F S32x16 .f32 :=
  let v686 := k0_pay71 p
  let v692 := k0_pay72 q
  let v698 := k0_pay73 r
  let v702 := k0_pay74 v656 v657
  let v703 := k0_pay75 p
  let v713 := k0_pay76 v702 v703
  let v724 := k0_pay77 v686 v702
  let v735 := k0_pay78 v686 v702
  let v746 := k0_pay79 v686 v702
  let v757 := k0_pay80 v686 v692 v702 v703
  let v759 := k0_pay81 v692
  let v811 := k0_pay82 v692 v698 v713 v724 v735 v746 v757 v759
  let v816 := k0_pay83 v692 v713
  let v817 := k0_pay84 v692
  let v844 := k0_pay85 v692 v698 v724 v735 v746 v811 v816 v817
  let v874 := k0_pay86 v692 v713 v724 v735 v746
  let v875 := k0_pay87 v698
  k0_pay88 v456 v844 v874 v875

/-- The expression `hid3`, from its intermediate vectors given one by one. -/
theorem hid3_of (v456 : FVec F S32x16 .f32) (v656 : FVec F S32x8x256 .f32) (v657 : FVec F S32x4x256 .f32) (p : Vec F S1x4x256 .f32) (q : Vec F S1x4x4x256 .f32) (r : Vec F S1x4x256 .f32)
    {v686 v698 : FVec F S4x256 .f32} {v692 : FVec F S4x4x256 .f32} {v702 : FVec F S32x16 .f32} {v703 : FVec F S1x256 .f32} {v713 v724 v735 v746 v757 v811 v816 v844 v874 v875 : FVec F S32x16x256 .f32} {v759 : FVec F S256 .f32} {v817 : FVec F S1x1x256 .f32}
    (hv686 : v686 = k0_pay71 p) (hv692 : v692 = k0_pay72 q) (hv698 : v698 = k0_pay73 r)
    (hv702 : v702 = k0_pay74 v656 v657) (hv703 : v703 = k0_pay75 p) (hv713 : v713 = k0_pay76 v702 v703)
    (hv724 : v724 = k0_pay77 v686 v702) (hv735 : v735 = k0_pay78 v686 v702) (hv746 : v746 = k0_pay79 v686 v702)
    (hv757 : v757 = k0_pay80 v686 v692 v702 v703) (hv759 : v759 = k0_pay81 v692) (hv811 : v811 = k0_pay82 v692 v698 v713 v724 v735 v746 v757 v759)
    (hv816 : v816 = k0_pay83 v692 v713) (hv817 : v817 = k0_pay84 v692) (hv844 : v844 = k0_pay85 v692 v698 v724 v735 v746 v811 v816 v817)
    (hv874 : v874 = k0_pay86 v692 v713 v724 v735 v746) (hv875 : v875 = k0_pay87 v698) :
    k0_pay88 v456 v844 v874 v875 = hid3 v456 v656 v657 p q r := by
  subst_vars; rfl

/-- The last layer over the hidden layers' result. -/
def lastRow (v905 : FVec F S32x16 .f32) (u : Vec F S4x256 .f32) (v : Vec F S4x4x256 .f32) (w : Vec F S4x256 .f32) :
    FVec F S32x16 .f32 :=
  let v911 := k0_pay89 u
  let v917 := k0_pay90 v
  let v923 := k0_pay91 w
  let v924 := k0_pay92
  let v938 := k0_pay94 v905 v911 v924
  let v949 := k0_pay95 v905 v911 v924
  let v960 := k0_pay96 v905 v911 v924
  let v971 := k0_pay97 v905 v911 v924
  let v976 := k0_pay98 v905 v911 v917 v924
  let v980 := k0_pay99 v917
  let v1036 := k0_pay100 v917 v923 v938 v949 v960 v971 v976 v980
  let v1038 := k0_pay101 v917
  let v1069 := k0_pay102 v917 v923 v938 v949 v960 v971 v1036 v1038
  let v1092 := k0_pay103 v917 v938 v949 v960 v971
  let v1095 := k0_pay104 v923
  let v1096 := k0_pay105
  k0_pay2 v1069 v1092 v1095 v1096

/-- The expression `lastRow`, from its intermediate vectors given one by one. -/
theorem lastRow_of (v905 : FVec F S32x16 .f32) (u : Vec F S4x256 .f32) (v : Vec F S4x4x256 .f32) (w : Vec F S4x256 .f32)
    {v911 v923 : FVec F S4x256 .f32} {v917 : FVec F S4x4x256 .f32} {v924 : FVec F S32x16 .f32} {v938 v949 v960 v971 v976 v980 v1036 v1069 v1092 v1096 : FVec F S32x16x256 .f32} {v1038 : FVec F S256 .f32} {v1095 : FVec F S1x1x256 .f32}
    (hv911 : v911 = k0_pay89 u) (hv917 : v917 = k0_pay90 v) (hv923 : v923 = k0_pay91 w)
    (hv924 : v924 = k0_pay92) (hv938 : v938 = k0_pay94 v905 v911 v924) (hv949 : v949 = k0_pay95 v905 v911 v924)
    (hv960 : v960 = k0_pay96 v905 v911 v924) (hv971 : v971 = k0_pay97 v905 v911 v924) (hv976 : v976 = k0_pay98 v905 v911 v917 v924)
    (hv980 : v980 = k0_pay99 v917) (hv1036 : v1036 = k0_pay100 v917 v923 v938 v949 v960 v971 v976 v980) (hv1038 : v1038 = k0_pay101 v917)
    (hv1069 : v1069 = k0_pay102 v917 v923 v938 v949 v960 v971 v1036 v1038) (hv1092 : v1092 = k0_pay103 v917 v938 v949 v960 v971) (hv1095 : v1095 = k0_pay104 v923)
    (hv1096 : v1096 = k0_pay105) :
    k0_pay2 v1069 v1092 v1095 v1096 = lastRow v905 u v w := by
  subst_vars; rfl

/-- The block stored at the last point, over the whole buffers: the body loads the hidden layers' weights one layer at a
    time. -/
def tailBlock (s : Vec F S16x32 .f32) (x4 : Vec F S4x4x256 .f32) (x5 : Vec F S4x4x4x256 .f32) (x6 : Vec F S4x4x256 .f32)
    (x7 : Vec F S4x256 .f32) (x8 : Vec F S4x4x256 .f32) (x9 : Vec F S4x256 .f32) : FVec F S32x16 .f32 :=
  let a := hid0 s (View.ld x4 (Rect.unit ![0, 0, 0] S1x4x256.size inb_S4x4x256_S1x4x256_0_0_0))
    (View.ld x5 (Rect.unit ![0, 0, 0, 0] S1x4x4x256.size inb_S4x4x4x256_S1x4x4x256_0_0_0_0))
    (View.ld x6 (Rect.unit ![0, 0, 0] S1x4x256.size inb_S4x4x256_S1x4x256_0_0_0))
  let b := hid1 a (View.ld x4 (Rect.unit ![1, 0, 0] S1x4x256.size inb_S4x4x256_S1x4x256_1_0_0))
    (View.ld x5 (Rect.unit ![1, 0, 0, 0] S1x4x4x256.size inb_S4x4x4x256_S1x4x4x256_1_0_0_0))
    (View.ld x6 (Rect.unit ![1, 0, 0] S1x4x256.size inb_S4x4x256_S1x4x256_1_0_0))
  let d := hid2 (k0_pay21 s) b.1 b.2 (View.ld x4 (Rect.unit ![2, 0, 0] S1x4x256.size inb_S4x4x256_S1x4x256_2_0_0))
    (View.ld x5 (Rect.unit ![2, 0, 0, 0] S1x4x4x256.size inb_S4x4x4x256_S1x4x4x256_2_0_0_0))
    (View.ld x6 (Rect.unit ![2, 0, 0] S1x4x256.size inb_S4x4x256_S1x4x256_2_0_0))
  lastRow (hid3 (k0_pay54 (k0_pay21 s) b.1 b.2) d.1 d.2 (View.ld x4 (Rect.unit ![3, 0, 0] S1x4x256.size inb_S4x4x256_S1x4x256_3_0_0))
    (View.ld x5 (Rect.unit ![3, 0, 0, 0] S1x4x4x256.size inb_S4x4x4x256_S1x4x4x256_3_0_0_0))
    (View.ld x6 (Rect.unit ![3, 0, 0] S1x4x256.size inb_S4x4x256_S1x4x256_3_0_0))) x7 x8 x9

end Cert.KernelIdeal.Gen

end
-- ==== Proof.RunB.lean ====
/- The body at the last point: it stores the output block and leaves its other buffers as it found them. -/
module

public import proofs.«01_k».proof.Proof.Points
public import proofs.«01_k».proof.Proof.Tail
public import Idealize.ShloMosaic.Lib.VecWindow

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
theorem runB (c : Dev nD) (i : grid0.Coords) (arg1 : Memref sig .tc .vmem S32x128 .f32) (harg1 : arg1.IsWhole) (arg2 : Memref sig .tc .vmem S128x20 .f32) (harg2 : arg2.IsWhole) (arg3 : Memref sig .tc .vmem S128x16 .f32) (harg3 : arg3.IsWhole) (arg4 : Memref sig .tc .vmem S128x4 .f32) (harg4 : arg4.IsWhole) (arg5 : Memref sig .tc .vmem S4x4x256 .f32) (harg5 : arg5.IsWhole) (arg6 : Memref sig .tc .vmem S4x4x4x256 .f32) (harg6 : arg6.IsWhole) (arg7 : Memref sig .tc .vmem S4x4x256 .f32) (harg7 : arg7.IsWhole) (arg8 : Memref sig .tc .vmem S4x256 .f32) (harg8 : arg8.IsWhole) (arg9 : Memref sig .tc .vmem S4x4x256 .f32) (harg9 : arg9.IsWhole) (arg10 : Memref sig .tc .vmem S4x256 .f32) (harg10 : arg10.IsWhole) (arg11 : Memref sig .tc .vmem S32x16 .f32) (harg11 : arg11.IsWhole) (arg12 : Memref sig .tc .vmem S16x32 .f32) (harg12 : arg12.IsWhole) (hc0 : ¬early i) (hc1 : atEnd i)
    (x4 : Vec F S4x4x256 .f32) (x5 : Vec F S4x4x4x256 .f32) (x6 : Vec F S4x4x256 .f32) (x7 : Vec F S4x256 .f32) (x8 : Vec F S4x4x256 .f32) (x9 : Vec F S4x256 .f32) (xs : Vec F S16x32 .f32) :
      ∀ (E : Set ℕ) (K : PUnit → sProp 𝕄),
        iprop(owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg12 fullShare xs ∗ (∃ d : Vec F S32x16 .f32, owns (c : Thread nD τ) arg11 fullShare d)
            ∗ (iprop(owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg12 fullShare xs ∗ owns (c : Thread nD τ) arg11 fullShare (tailBlock xs x4 x5 x6 x7 x8 x9)) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12) K := by
    intro E K
    simp only [cc0__body_eq_skeleton]; unfold cc0__body_skel
    simp only [k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton]
    unfold owns
    iintro ⟨⟨%f5, %hf5, H5⟩, ⟨%f6, %hf6, H6⟩, ⟨%f7, %hf7, H7⟩, ⟨%f8, %hf8, H8⟩, ⟨%f9, %hf9, H9⟩, ⟨%f10, %hf10, H10⟩, ⟨%f12, %hf12, H12⟩, ⟨%d, %f11, %hf11, H11⟩, Hk⟩
    obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg12.eq_unread hf12
    sl_exec (disch := first | sl_exact hc0 | sl_exact hc1)
    sl_step
    iapply Hk
    isplitl [H5]
    · iexists _; isplitr [H5]; · ipureintro; exact harg5.read_unread _
      · iexact H5
    isplitl [H6]
    · iexists _; isplitr [H6]; · ipureintro; exact harg6.read_unread _
      · iexact H6
    isplitl [H7]
    · iexists _; isplitr [H7]; · ipureintro; exact harg7.read_unread _
      · iexact H7
    isplitl [H8]
    · iexists _; isplitr [H8]; · ipureintro; exact harg8.read_unread _
      · iexact H8
    isplitl [H9]
    · iexists _; isplitr [H9]; · ipureintro; exact harg9.read_unread _
      · iexact H9
    isplitl [H10]
    · iexists _; isplitr [H10]; · ipureintro; exact harg10.read_unread _
      · iexact H10
    isplitl [H12]
    · iexists _; isplitr [H12]; · ipureintro; exact harg12.read_unread _
      · iexact H12
    iexists _; isplitr [H11]; swap
    · iexact H11
    · ipureintro
      refine (View.read_writes_full _ _ _ _ _).trans ?_
      have e0 : View.readAt (Elt F) arg12.view (Rect.unit ![0, 0] S16x32.size inb_S16x32_S16x32_0_0).toLoadRect (harg12.unread xs) = xs :=
        (readAt_ld harg12 _ _).trans (View.ld_unit_zero (by funext a; fin_cases a <;> rfl) _ xs)
      have e7 : View.readAt (Elt F) arg8.view (Rect.unit ![0, 0] S4x256.size inb_S4x256_S4x256_0_0).toLoadRect (harg8.unread x7) = x7 :=
        (readAt_ld harg8 _ _).trans (View.ld_unit_zero (by funext a; fin_cases a <;> rfl) _ x7)
      have e8 : View.readAt (Elt F) arg9.view (Rect.unit ![0, 0, 0] S4x4x256.size inb_S4x4x256_S4x4x256_0_0_0).toLoadRect (harg9.unread x8) = x8 :=
        (readAt_ld harg9 _ _).trans (View.ld_unit_zero (by funext a; fin_cases a <;> rfl) _ x8)
      have e9 : View.readAt (Elt F) arg10.view (Rect.unit ![0, 0] S4x256.size inb_S4x256_S4x256_0_0).toLoadRect (harg10.unread x9) = x9 :=
        (readAt_ld harg10 _ _).trans (View.ld_unit_zero (by funext a; fin_cases a <;> rfl) _ x9)
      have h7 : runB.sl.r c arg12 harg12 xs = k0_pay21 xs := congrArg k0_pay21 e0
      have g1 : runB.sl.r_15 c arg5 harg5 arg6 harg6 arg7 harg7 arg12 harg12 x4 x5 x6 xs = hid0 xs (View.readAt (Elt F) arg5.view (Rect.unit (s := S4x4x256) ![0, 0, 0] S1x4x256.size inb_S4x4x256_S1x4x256_0_0_0).toLoadRect (harg5.unread x4)) (View.readAt (Elt F) arg6.view (Rect.unit (s := S4x4x4x256) ![0, 0, 0, 0] S1x4x4x256.size inb_S4x4x4x256_S1x4x4x256_0_0_0_0).toLoadRect (harg6.unread x5)) (View.readAt (Elt F) arg7.view (Rect.unit (s := S4x4x256) ![0, 0, 0] S1x4x256.size inb_S4x4x256_S1x4x256_0_0_0).toLoadRect (harg7.unread x6)) := Eq.trans (b := hid0 (View.readAt (Elt F) arg12.view (Rect.unit ![0, 0] S16x32.size inb_S16x32_S16x32_0_0).toLoadRect (harg12.unread xs)) (View.readAt (Elt F) arg5.view (Rect.unit (s := S4x4x256) ![0, 0, 0] S1x4x256.size inb_S4x4x256_S1x4x256_0_0_0).toLoadRect (harg5.unread x4)) (View.readAt (Elt F) arg6.view (Rect.unit (s := S4x4x4x256) ![0, 0, 0, 0] S1x4x4x256.size inb_S4x4x4x256_S1x4x4x256_0_0_0_0).toLoadRect (harg6.unread x5)) (View.readAt (Elt F) arg7.view (Rect.unit (s := S4x4x256) ![0, 0, 0] S1x4x256.size inb_S4x4x256_S1x4x256_0_0_0).toLoadRect (harg7.unread x6))) (by apply hid0_of <;> rfl) (by rw [e0])
      have g2 : runB.sl.r_30 c arg5 harg5 arg6 harg6 arg7 harg7 arg12 harg12 x4 x5 x6 xs = (hid1 (runB.sl.r_15 c arg5 harg5 arg6 harg6 arg7 harg7 arg12 harg12 x4 x5 x6 xs) (View.readAt (Elt F) arg5.view (Rect.unit (s := S4x4x256) ![1, 0, 0] S1x4x256.size inb_S4x4x256_S1x4x256_1_0_0).toLoadRect (harg5.unread x4)) (View.readAt (Elt F) arg6.view (Rect.unit (s := S4x4x4x256) ![1, 0, 0, 0] S1x4x4x256.size inb_S4x4x4x256_S1x4x4x256_1_0_0_0).toLoadRect (harg6.unread x5)) (View.readAt (Elt F) arg7.view (Rect.unit (s := S4x4x256) ![1, 0, 0] S1x4x256.size inb_S4x4x256_S1x4x256_1_0_0).toLoadRect (harg7.unread x6))).1 := by apply hid1_of_fst <;> rfl
      have g3 : runB.sl.r_31 c arg5 harg5 arg6 harg6 arg7 harg7 arg12 harg12 x4 x5 x6 xs = (hid1 (runB.sl.r_15 c arg5 harg5 arg6 harg6 arg7 harg7 arg12 harg12 x4 x5 x6 xs) (View.readAt (Elt F) arg5.view (Rect.unit (s := S4x4x256) ![1, 0, 0] S1x4x256.size inb_S4x4x256_S1x4x256_1_0_0).toLoadRect (harg5.unread x4)) (View.readAt (Elt F) arg6.view (Rect.unit (s := S4x4x4x256) ![1, 0, 0, 0] S1x4x4x256.size inb_S4x4x4x256_S1x4x4x256_1_0_0_0).toLoadRect (harg6.unread x5)) (View.readAt (Elt F) arg7.view (Rect.unit (s := S4x4x256) ![1, 0, 0] S1x4x256.size inb_S4x4x256_S1x4x256_1_0_0).toLoadRect (harg7.unread x6))).2 := by apply hid1_of_snd <;> rfl
      have g4 : runB.sl.r_32 c arg5 harg5 arg6 harg6 arg7 harg7 arg12 harg12 x4 x5 x6 xs = k0_pay54 (runB.sl.r c arg12 harg12 xs) (runB.sl.r_30 c arg5 harg5 arg6 harg6 arg7 harg7 arg12 harg12 x4 x5 x6 xs) (runB.sl.r_31 c arg5 harg5 arg6 harg6 arg7 harg7 arg12 harg12 x4 x5 x6 xs) := rfl
      have g5 : runB.sl.r_47 c arg5 harg5 arg6 harg6 arg7 harg7 arg12 harg12 x4 x5 x6 xs = (hid2 (runB.sl.r c arg12 harg12 xs) (runB.sl.r_30 c arg5 harg5 arg6 harg6 arg7 harg7 arg12 harg12 x4 x5 x6 xs) (runB.sl.r_31 c arg5 harg5 arg6 harg6 arg7 harg7 arg12 harg12 x4 x5 x6 xs) (View.readAt (Elt F) arg5.view (Rect.unit (s := S4x4x256) ![2, 0, 0] S1x4x256.size inb_S4x4x256_S1x4x256_2_0_0).toLoadRect (harg5.unread x4)) (View.readAt (Elt F) arg6.view (Rect.unit (s := S4x4x4x256) ![2, 0, 0, 0] S1x4x4x256.size inb_S4x4x4x256_S1x4x4x256_2_0_0_0).toLoadRect (harg6.unread x5)) (View.readAt (Elt F) arg7.view (Rect.unit (s := S4x4x256) ![2, 0, 0] S1x4x256.size inb_S4x4x256_S1x4x256_2_0_0).toLoadRect (harg7.unread x6))).1 := by apply hid2_of_fst <;> rfl
      have g6 : runB.sl.r_48 c arg5 harg5 arg6 harg6 arg7 harg7 arg12 harg12 x4 x5 x6 xs = (hid2 (runB.sl.r c arg12 harg12 xs) (runB.sl.r_30 c arg5 harg5 arg6 harg6 arg7 harg7 arg12 harg12 x4 x5 x6 xs) (runB.sl.r_31 c arg5 harg5 arg6 harg6 arg7 harg7 arg12 harg12 x4 x5 x6 xs) (View.readAt (Elt F) arg5.view (Rect.unit (s := S4x4x256) ![2, 0, 0] S1x4x256.size inb_S4x4x256_S1x4x256_2_0_0).toLoadRect (harg5.unread x4)) (View.readAt (Elt F) arg6.view (Rect.unit (s := S4x4x4x256) ![2, 0, 0, 0] S1x4x4x256.size inb_S4x4x4x256_S1x4x4x256_2_0_0_0).toLoadRect (harg6.unread x5)) (View.readAt (Elt F) arg7.view (Rect.unit (s := S4x4x256) ![2, 0, 0] S1x4x256.size inb_S4x4x256_S1x4x256_2_0_0).toLoadRect (harg7.unread x6))).2 := by apply hid2_of_snd <;> rfl
      have g7 : runB.sl.r_66 c arg5 harg5 arg6 harg6 arg7 harg7 arg12 harg12 x4 x5 x6 xs = hid3 (runB.sl.r_32 c arg5 harg5 arg6 harg6 arg7 harg7 arg12 harg12 x4 x5 x6 xs) (runB.sl.r_47 c arg5 harg5 arg6 harg6 arg7 harg7 arg12 harg12 x4 x5 x6 xs) (runB.sl.r_48 c arg5 harg5 arg6 harg6 arg7 harg7 arg12 harg12 x4 x5 x6 xs) (View.readAt (Elt F) arg5.view (Rect.unit (s := S4x4x256) ![3, 0, 0] S1x4x256.size inb_S4x4x256_S1x4x256_3_0_0).toLoadRect (harg5.unread x4)) (View.readAt (Elt F) arg6.view (Rect.unit (s := S4x4x4x256) ![3, 0, 0, 0] S1x4x4x256.size inb_S4x4x4x256_S1x4x4x256_3_0_0_0).toLoadRect (harg6.unread x5)) (View.readAt (Elt F) arg7.view (Rect.unit (s := S4x4x256) ![3, 0, 0] S1x4x256.size inb_S4x4x256_S1x4x256_3_0_0).toLoadRect (harg7.unread x6)) := by apply hid3_of <;> rfl
      refine Eq.trans (b := lastRow (runB.sl.r_66 c arg5 harg5 arg6 harg6 arg7 harg7 arg12 harg12 x4 x5 x6 xs) (View.readAt (Elt F) arg8.view (Rect.unit ![0, 0] S4x256.size inb_S4x256_S4x256_0_0).toLoadRect (harg8.unread x7)) (View.readAt (Elt F) arg9.view (Rect.unit ![0, 0, 0] S4x4x256.size inb_S4x4x256_S4x4x256_0_0_0).toLoadRect (harg9.unread x8)) (View.readAt (Elt F) arg10.view (Rect.unit ![0, 0] S4x256.size inb_S4x256_S4x256_0_0).toLoadRect (harg10.unread x9))) (by apply lastRow_of <;> rfl) ?_
      rw [e7, e8, e9, g7, g6, g5, g4, g3, g2, g1, h7]
      simp only [readAt_ld, tailBlock]

end Cert.KernelIdeal.Gen

end
-- ==== Proof.Launch.lean ====
/- The launch of the idealized kernel: what each buffer holds at each grid point, the body's triple at every point from its
   two runs, and the whole run with the output array's contents named. -/
module

public import proofs.«01_k».proof.Proof.RunA
public import proofs.«01_k».proof.Proof.RunB
public import Idealize.ShloMosaic.Lib.Claim
public import Idealize.ShloMosaic.Lib.ValueIdx

@[expose] public section

set_option maxRecDepth 16384

noncomputable section

namespace Cert.KernelIdeal.Gen

open Idealize.ShloMosaic.ValueIdx
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the buffers hold -/

/-- The grid has seventeen points. -/
theorem point_lt (t : Fin cfg0.N) : t.val < 17 := lt_of_lt_of_eq t.isLt N_0

/-- Point `n` of the grid. -/
def pt (n : ℕ) (h : n < 17) : Fin cfg0.N := ⟨n, lt_of_lt_of_eq h N_0.symm⟩

/-- The row of the scratch buffer that point `t` writes, over the blocks staged there. -/
def rowAt (c : Dev nD) (t : Fin cfg0.N) : FVec F S1x32 .f32 :=
  segBlock (iblk m c 0 t) (iblk m c 1 t) (iblk m c 2 t) (iblk m c 3 t)

/-- The scratch buffer once every row is written. -/
def rowsAll (c : Dev nD) : Vec F S16x32 .f32 := fun y =>
  rowAt m c (pt (y 0).val (lt_trans (show (y 0).val < 16 from (y 0).isLt) (by decide))) (ix2 (0 : Fin 1) (y 1))

/-- The scratch buffer holds the rows of the points before `n`. -/
def HoldsRows (c : Dev nD) (n : ℕ) (f : Vec F S16x32 .f32) : Prop := ∀ y : S16x32.Idx, (y 0).val < n → f y = rowsAll m c y

/-- Before the first point nothing is asked of the scratch buffer. -/
theorem holdsRows_zero (c : Dev nD) (f : Vec F S16x32 .f32) : HoldsRows m c 0 f := fun _ h => absurd h (Nat.not_lt_zero _)

/-- After the sixteenth point the scratch buffer is known whole. -/
theorem holdsRows_all (c : Dev nD) (f : Vec F S16x32 .f32) (h : HoldsRows m c 16 f) : f = rowsAll m c :=
  funext fun y => h y (y 0).isLt

/-- The row a point before the last writes begins at column 0 of the row of its own number. -/
theorem off_point : ∀ t : Fin cfg0.N, t.val < 16 → k0_off1 (grid0.coords t) = ![t.val, 0] :=
  (by decide +kernel : ∀ t : Fin grid0.N, t.val < 16 → k0_off1 (grid0.coords t) = ![t.val, 0])

/-- Writing the row of point `t` keeps the earlier rows and adds one. -/
theorem holdsRows_succ (c : Dev nD) (t : Fin cfg0.N) (ht : t.val < 16) (f : Vec F S16x32 .f32) (h : HoldsRows m c t.val f) :
    HoldsRows m c (t.val + 1) (VecWindow.put f (k0_off1 (grid0.coords t)) S1x32.size (rowAt m c t)) := by
  rw [off_point t ht]
  intro y hy
  unfold VecWindow.put
  by_cases e : (y 0).val = t.val
  · have hin : ∀ a, (![t.val, 0] : Fin 2 → ℕ) a ≤ (y a).val ∧ (y a).val < (![t.val, 0] : Fin 2 → ℕ) a + S1x32.size a := by
      intro a; fin_cases a
      · show t.val ≤ (y 0).val ∧ (y 0).val < t.val + 1; omega
      · have h1 : (y 1).val < 32 := (y 1).isLt
        show 0 ≤ (y 1).val ∧ (y 1).val < 0 + 32; omega
    rw [dif_pos hin]
    unfold rowsAll
    have et : pt (y 0).val (lt_trans (show (y 0).val < 16 from (y 0).isLt) (by decide)) = t := Fin.ext e
    rw [et]
    refine congrArg (rowAt m c t) (funext fun a => Fin.ext ?_)
    rw [Rect.unitLocal_val]
    fin_cases a
    · show (y 0).val - t.val = 0; omega
    · show (y 1).val - 0 = (y 1).val; omega
  · have hout : ¬ ∀ a, (![t.val, 0] : Fin 2 → ℕ) a ≤ (y a).val ∧ (y a).val < (![t.val, 0] : Fin 2 → ℕ) a + S1x32.size a := by
      intro H
      have h0 : t.val ≤ (y 0).val ∧ (y 0).val < t.val + 1 := H 0
      omega
    rw [dif_neg hout]
    exact h y (by omega)

/-- The block the last point stores, over the whole scratch buffer and the blocks staged at point `t`. -/
def outAt (c : Dev nD) (t : Fin cfg0.N) : Vec F S32x16 .f32 :=
  tailBlock (rowsAll m c) (iblk m c 4 t) (iblk m c 5 t) (iblk m c 6 t) (iblk m c 7 t) (iblk m c 8 t) (iblk m c 9 t)

/-! ## The proof data -/

/-- The proof data on core `c`: each array as the region finds it; after the body at point `t` each input's buffer at its
    block and the output's at the last point's block; between points the scratch buffer at the rows written so far. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => outAt m c t
  Φ t := iprop((∃ f : Vec F S16x32 .f32, ⌜HoldsRows m c (min t.val 16) f⌝ ∗ owns (c : Thread nD τ) rowsBuf fullShare f) ∗ (∃ r, prngReg c r))
  q _ := fullShare
  owed _ := 0

/-- The proof data's arrays are what the region finds. -/
theorem A_eq (c : Dev nD) (w : Fin cfg0.W) : (dats m 0 c).A w = V m c (Pipeline.arrRef spec0 w) := by
  dsimp only [dats]

/-- What each window's buffer holds after the body. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = outAt m c t := by dsimp only [dats]

/-- Each input's buffer holds its block before the body too. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d

/-! ## The body at a point -/

/-- The invariant between points. -/
def inv (c : Dev nD) (n : ℕ) : sProp 𝕄 :=
  iprop((∃ f : Vec F S16x32 .f32, ⌜HoldsRows m c (min n 16) f⌝ ∗ owns (c : Thread nD τ) rowsBuf fullShare f) ∗ (∃ r, prngReg c r))

/-- The proof data's invariant is this one. -/
theorem inv_eq (c : Dev nD) (t : Fin (cfg0.N + 1)) : (dats m 0 c).Φ t = inv m c t.val := by dsimp only [dats, inv]

/-- What is asked of each input's buffer after the body: its block. -/
theorem leaves0_0 (c : Dev nD) (t : Fin cfg0.N) : (dats m 0 c).leavesExact 0 t = owns (c : Thread nD τ) (buf0 t) fullShare (iblk m c 0 t) := by
  unfold Dat.leavesExact; rw [inputs_live 0 t (by decide), after0_0]
theorem leaves0_1 (c : Dev nD) (t : Fin cfg0.N) : (dats m 0 c).leavesExact 1 t = owns (c : Thread nD τ) (buf1 t) fullShare (iblk m c 1 t) := by
  unfold Dat.leavesExact; rw [inputs_live 1 t (by decide), after0_1]
theorem leaves0_2 (c : Dev nD) (t : Fin cfg0.N) : (dats m 0 c).leavesExact 2 t = owns (c : Thread nD τ) (buf2 t) fullShare (iblk m c 2 t) := by
  unfold Dat.leavesExact; rw [inputs_live 2 t (by decide), after0_2]
theorem leaves0_3 (c : Dev nD) (t : Fin cfg0.N) : (dats m 0 c).leavesExact 3 t = owns (c : Thread nD τ) (buf3 t) fullShare (iblk m c 3 t) := by
  unfold Dat.leavesExact; rw [inputs_live 3 t (by decide), after0_3]
theorem leaves0_4 (c : Dev nD) (t : Fin cfg0.N) : (dats m 0 c).leavesExact 4 t = owns (c : Thread nD τ) (buf4 t) fullShare (iblk m c 4 t) := by
  unfold Dat.leavesExact; rw [inputs_live 4 t (by decide), after0_4]
theorem leaves0_5 (c : Dev nD) (t : Fin cfg0.N) : (dats m 0 c).leavesExact 5 t = owns (c : Thread nD τ) (buf5 t) fullShare (iblk m c 5 t) := by
  unfold Dat.leavesExact; rw [inputs_live 5 t (by decide), after0_5]
theorem leaves0_6 (c : Dev nD) (t : Fin cfg0.N) : (dats m 0 c).leavesExact 6 t = owns (c : Thread nD τ) (buf6 t) fullShare (iblk m c 6 t) := by
  unfold Dat.leavesExact; rw [inputs_live 6 t (by decide), after0_6]
theorem leaves0_7 (c : Dev nD) (t : Fin cfg0.N) : (dats m 0 c).leavesExact 7 t = owns (c : Thread nD τ) (buf7 t) fullShare (iblk m c 7 t) := by
  unfold Dat.leavesExact; rw [inputs_live 7 t (by decide), after0_7]
theorem leaves0_8 (c : Dev nD) (t : Fin cfg0.N) : (dats m 0 c).leavesExact 8 t = owns (c : Thread nD τ) (buf8 t) fullShare (iblk m c 8 t) := by
  unfold Dat.leavesExact; rw [inputs_live 8 t (by decide), after0_8]
theorem leaves0_9 (c : Dev nD) (t : Fin cfg0.N) : (dats m 0 c).leavesExact 9 t = owns (c : Thread nD τ) (buf9 t) fullShare (iblk m c 9 t) := by
  unfold Dat.leavesExact; rw [inputs_live 9 t (by decide), after0_9]

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (buf0 t) fullShare ((dats m 0 c).before 0 t d))
    ∗ (∃ d, owns (c : Thread nD τ) (buf1 t) fullShare ((dats m 0 c).before 1 t d))
    ∗ (∃ d, owns (c : Thread nD τ) (buf2 t) fullShare ((dats m 0 c).before 2 t d))
    ∗ (∃ d, owns (c : Thread nD τ) (buf3 t) fullShare ((dats m 0 c).before 3 t d))
    ∗ (∃ d, owns (c : Thread nD τ) (buf4 t) fullShare ((dats m 0 c).before 4 t d))
    ∗ (∃ d, owns (c : Thread nD τ) (buf5 t) fullShare ((dats m 0 c).before 5 t d))
    ∗ (∃ d, owns (c : Thread nD τ) (buf6 t) fullShare ((dats m 0 c).before 6 t d))
    ∗ (∃ d, owns (c : Thread nD τ) (buf7 t) fullShare ((dats m 0 c).before 7 t d))
    ∗ (∃ d, owns (c : Thread nD τ) (buf8 t) fullShare ((dats m 0 c).before 8 t d))
    ∗ (∃ d, owns (c : Thread nD τ) (buf9 t) fullShare ((dats m 0 c).before 9 t d))
    ∗ (∃ d, owns (c : Thread nD τ) (buf10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t)

/-- The output window is idle at the points before the last, and is not written back there. -/
theorem idle_out : ∀ t : Fin cfg0.N, t.val < 16 → cfg0.idle 10 (grid0.coords t) = true :=
  (by decide +kernel : ∀ t : Fin grid0.N, t.val < 16 → cfg0.idle 10 (grid0.coords t) = true)

/-- At the last point it is not idle. -/
theorem live_out : ∀ t : Fin cfg0.N, ¬t.val < 16 → cfg0.idle 10 (grid0.coords t) = false :=
  (by decide +kernel : ∀ t : Fin grid0.N, ¬t.val < 16 → cfg0.idle 10 (grid0.coords t) = false)

/-- What is asked of the output's buffer after a point before the last: what it held. -/
theorem leaves_idle (c : Dev nD) (t : Fin cfg0.N) (h : t.val < 16) :
    (dats m 0 c).leavesExact 10 t = iprop(∃ d, owns (c : Thread nD τ) (buf10 t) fullShare ((dats m 0 c).before 10 t d)) :=
  (dats m 0 c).leavesExact_idle 10 t (idle_out t h) (by
    have hf := flush0_10 t
    cases e : (cfg0.win 10).flush t
    · rfl
    · rw [e] at hf; have := hf.mp rfl; omega)

/-- What is asked of it after the last point: the block stored. -/
theorem leaves_last (c : Dev nD) (t : Fin cfg0.N) (h : ¬t.val < 16) :
    (dats m 0 c).leavesExact 10 t = owns (c : Thread nD τ) (buf10 t) fullShare (outAt m c t) := by
  unfold Dat.leavesExact; rw [show cfg0.idle 10 (cfg0.grid.coords t) = false from live_out t h, after0_10]

set_option maxHeartbeats 2400000 in
/-- The body at a point before the last writes one more row. -/
theorem body_early (c : Dev nD) (t : Fin cfg0.N) (h0 : t.val < 16) :
    bodyPre m c t ⊢ wp frame (wpE (defs₀ (F := F)) Variants.none c none) Set.univ (bodyAt0 t) (fun _ => bodyPost m c t) := by
  have e0 : min t.val 16 = t.val := by omega
  have e1 : min (t.val + 1) 16 = t.val + 1 := by omega
  unfold bodyPre bodyPost bodyAt0
  rw [show (dats m 0 c).owesAt () t.succ = (dats m 0 c).owesAt () t.castSucc from rfl, inv_eq, inv_eq]
  rw [leaves0_0, leaves0_1, leaves0_2, leaves0_3, leaves0_4, leaves0_5, leaves0_6, leaves0_7, leaves0_8, leaves0_9]
  unfold inv
  rw [Fin.val_castSucc, Fin.val_succ]
  rw [leaves_idle m c t h0, e0, e1]
  simp only [before0_0, before0_1, before0_2, before0_3, before0_4, before0_5, before0_6, before0_7, before0_8, before0_9]
  iintro ⟨⟨⟨%f, %hf, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, H10⟩
  iapply ((runA c (grid0.coords t) _ _ _ _ _ _ _ _ _ _ _ _ _ _ _ _ _ _ _ _ _ _ _ _ ((early_iff t).mpr h0)
    (fun h => by have := (atEnd_iff t).mp h; omega) (iblk m c 0 t) (iblk m c 1 t) (iblk m c 2 t) (iblk m c 3 t) f) Set.univ _)
  isplitl [H0]; · iexact H0
  isplitl [H1]; · iexact H1
  isplitl [H2]; · iexact H2
  isplitl [H3]; · iexact H3
  isplitl [HS]; · iexact HS
  iintro ⟨H0, H1, H2, H3, HS⟩
  isplitl [HS Hg]
  · isplitl [HS]
    · iexists _; isplitr [HS]; swap
      · iexact HS
      · ipureintro; exact holdsRows_succ m c t h0 f hf
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

set_option maxHeartbeats 2400000 in
/-- The body at the last point finds every row and stores the output block. -/
theorem body_last (c : Dev nD) (t : Fin cfg0.N) (h0 : ¬t.val < 16) :
    bodyPre m c t ⊢ wp frame (wpE (defs₀ (F := F)) Variants.none c none) Set.univ (bodyAt0 t) (fun _ => bodyPost m c t) := by
  have hN := point_lt t
  have e0 : min t.val 16 = 16 := by omega
  have e1 : min (t.val + 1) 16 = 16 := by omega
  unfold bodyPre bodyPost bodyAt0
  rw [show (dats m 0 c).owesAt () t.succ = (dats m 0 c).owesAt () t.castSucc from rfl, inv_eq, inv_eq]
  rw [leaves0_0, leaves0_1, leaves0_2, leaves0_3, leaves0_4, leaves0_5, leaves0_6, leaves0_7, leaves0_8, leaves0_9]
  unfold inv
  rw [Fin.val_castSucc, Fin.val_succ]
  rw [leaves_last m c t h0, e0, e1]
  simp only [before0_0, before0_1, before0_2, before0_3, before0_4, before0_5, before0_6, before0_7, before0_8, before0_9]
  iintro ⟨⟨⟨%f, %hf, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  obtain rfl := holdsRows_all m c f hf
  iapply ((runB c (grid0.coords t) _ _ _ _ _ _ _ _ _ _ _ _ _ _ _ _ _ _ _ _ _ _ _ _ (fun h => h0 ((early_iff t).mp h))
    ((atEnd_iff t).mpr (by omega)) (iblk m c 4 t) (iblk m c 5 t) (iblk m c 6 t) (iblk m c 7 t) (iblk m c 8 t) (iblk m c 9 t) (rowsAll m c)) Set.univ _)
  isplitl [H4]; · iexact H4
  isplitl [H5]; · iexact H5
  isplitl [H6]; · iexact H6
  isplitl [H7]; · iexact H7
  isplitl [H8]; · iexact H8
  isplitl [H9]; · iexact H9
  isplitl [HS]; · iexact HS
  isplitl [H10]; · iexists _; iexact H10
  iintro ⟨H4, H5, H6, H7, H8, H9, HS, H10⟩
  isplitl [HS Hg]
  · isplitl [HS]
    · iexists _; isplitr [HS]; swap
      · iexact HS
      · ipureintro; exact hf
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The body's triple at every point. -/
theorem sound_body (c : Dev nD) (t : Fin cfg0.N) :
    bodyPre m c t ⊢ wp frame (wpE (defs₀ (F := F)) Variants.none c none) Set.univ (bodyAt0 t) (fun _ => bodyPost m c t) := by
  by_cases h0 : t.val < 16
  · exact body_early m c t h0
  · exact body_last m c t h0

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

/-- The body obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

/-- Before the first point the scratch buffer may hold anything. -/
theorem inv_in (c : Dev nD) : (Pipeline.ΦA spec0 c : sProp 𝕄) ⊢ (dats m 0 c).Φ 0 := by
  rw [carried_eq]
  dsimp only [dats]
  iintro ⟨⟨%f, HS⟩, Hg⟩
  isplitl [HS]
  · iexists f; isplitr [HS]; swap
    · iexact HS
    · ipureintro; exact holdsRows_zero m c f
  iexact Hg

/-- After the last point what it holds is forgotten. -/
theorem inv_out (c : Dev nD) : (dats m 0 c).Φ (Fin.last cfg0.N) ⊢ (Pipeline.ΦA spec0 c : sProp 𝕄) := by
  rw [carried_eq]
  dsimp only [dats]
  iintro ⟨⟨%f, %hf, HS⟩, Hg⟩
  isplitl [HS]
  · iexists f; iexact HS
  iexact Hg

set_option backward.isDefEq.respectTransparency.types false in
/-- The whole run: every array ends at what its write-backs leave, every other buffer as the region found it, every
    semaphore counter at zero. -/
theorem run_all : θ_run defs (onTc (τ := τ) (main (F := F))) (s₀ m ρ)
    (fun r => Pipeline.FramePost cfgs (dats m) 0 (V m) r ∧ r.2.sem = fun _ => 0) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := inv_in m) (hout := inv_out m) (Q' := _) (hQ' := fun _ h => h)

/-- The run without the counters. -/
theorem run_arrays : θ_run defs (onTc (τ := τ) (main (F := F))) (s₀ m ρ) (Pipeline.FramePost cfgs (dats m) 0 (V m)) :=
  (θ_run defs _ _).mono (fun _ h => h.1) (run_all m ρ)

/-- The idealized kernel ends with its argument arrays as it found them and every semaphore counter at zero. -/
theorem frame_ideal : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (frame_of m ρ (dats m) (A_eq m) (run_arrays m ρ)) ((θ_run defs _ _).mono (fun _ h => h.2) (run_all m ρ))

end Cert.KernelIdeal.Gen

end
-- ==== Proof.SameProgram.lean ====
/- The kernel and its idealization are the same program line for line, so that the frame of the one is the frame of
   the other. -/
module

public import proofs.«01_k».proof.Defs
public import proofs.«01_k».proof.Proof.Gen.Kernel
public import proofs.«01_k».proof.Proof.Launch

@[expose] public section

set_option maxRecDepth 100000
set_option maxHeartbeats 4000000

noncomputable section

namespace Cert.Proof

open Idealize.ShloMosaic Idealize.SL.Sem Cert.Kernel

variable {F : FTy → Type} [FloatOps F]

/-- The two programs run the same code at a grid point. -/
theorem body_same : (Cert.Kernel.cc0__body (F := F)) = Cert.KernelIdeal.cc0__body := rfl

/-- The two programs have the same table of bodies. -/
theorem bodies_same : (Cert.Kernel.defs₀ (F := F)) = Cert.KernelIdeal.defs₀ := by
  unfold Cert.Kernel.defs₀ Cert.KernelIdeal.defs₀
  refine congrArg Defs.onTc ?_
  funext l a
  match l, a with
  | ⟨0, _⟩, (t, s) =>
    dsimp only
    rw [body_same]
    congr 1
  | ⟨_ + 1, h⟩, _ => exact absurd h (Nat.not_lt.2 (Nat.le_add_left _ _))

/-- The two programs have the same table of bodies and regions. -/
theorem regions_same : (Cert.Kernel.defs (F := F)) = Cert.KernelIdeal.defs := by
  unfold Cert.Kernel.defs Cert.KernelIdeal.defs
  rw [bodies_same]
  rfl

/-- The two programs have the same host code. -/
theorem main_same : (Cert.Kernel.main (F := F)) = Cert.KernelIdeal.main := rfl

/-- The kernel terminates with its arguments as it found them and every semaphore counter at zero. -/
theorem frame_kernel : Cert.quiescent_Kernel := fun m ρ _ => by
  rw [regions_same, main_same]
  exact Cert.KernelIdeal.Gen.frame_ideal m ρ

end Cert.Proof

end
-- ==== Proof.Folds.lean ====
/- Sums along an axis written as repeated halving: the upper half of the axis is added onto the lower half until one
   entry is left. -/
module

public import Idealize.ShloMosaic.Lib.ValueIdx
public import Idealize.ShloMosaic.Lib.Pipeline.Value
public import Idealize.ShloMosaic.PureOps.Ideal.Laws

@[expose] public section

noncomputable section

namespace Cert.Net

open Idealize.ShloMosaic Idealize.ShloMosaic.ValueIdx

/-- The middle axis halved: entry `j` and entry `n + j` added. -/
def foldMid {a m c : Nat} (n : Nat) (h : n + n ≤ m) (X : FVec Ideal ⟨3, ![a, m, c]⟩ .f32) :
    FVec Ideal ⟨3, ![a, n, c]⟩ .f32 := fun i =>
  X (ix3 (i 0) ⟨(i 1).val, by have : (i 1).val < n := (i 1).isLt; omega⟩ (i 2))
    + X (ix3 (i 0) ⟨n + (i 1).val, by have : (i 1).val < n := (i 1).isLt; omega⟩ (i 2))

/-- The last axis halved. -/
def foldLast {a b m : Nat} (n : Nat) (h : n + n ≤ m) (X : FVec Ideal ⟨3, ![a, b, m]⟩ .f32) :
    FVec Ideal ⟨3, ![a, b, n]⟩ .f32 := fun i =>
  X (ix3 (i 0) (i 1) ⟨(i 2).val, by have : (i 2).val < n := (i 2).isLt; omega⟩)
    + X (ix3 (i 0) (i 1) ⟨n + (i 2).val, by have : (i 2).val < n := (i 2).isLt; omega⟩)

/-- The columns of a matrix halved. -/
def foldCols {a m : Nat} (n : Nat) (h : n + n ≤ m) (X : FVec Ideal ⟨2, ![a, m]⟩ .f32) :
    FVec Ideal ⟨2, ![a, n]⟩ .f32 := fun i =>
  X (ix2 (i 0) ⟨(i 1).val, by have : (i 1).val < n := (i 1).isLt; omega⟩)
    + X (ix2 (i 0) ⟨n + (i 1).val, by have : (i 1).val < n := (i 1).isLt; omega⟩)

/-- The two halves of the middle axis added as slices. -/
theorem add_slices_mid {a m c n : Nat} (X : FVec Ideal ⟨3, ![a, m, c]⟩ .f32)
    (h0 : (⟨3, ![a, m, c]⟩ : Shape).Slices ![0, 0, 0] ⟨3, ![a, n, c]⟩)
    (h1 : (⟨3, ![a, m, c]⟩ : Shape).Slices ![0, n, 0] ⟨3, ![a, n, c]⟩) :
    addf (extractStridedSlice ⟨3, ![a, n, c]⟩ ![0, 0, 0] X h0) (extractStridedSlice ⟨3, ![a, n, c]⟩ ![0, n, 0] X h1)
      = foldMid n (h1.2 1) X := by
  funext i
  show extractStridedSlice _ _ X h0 i + extractStridedSlice _ _ X h1 i = _
  rw [extractStridedSlice_apply _ X h0 i (ix3 (i 0) ⟨(i 1).val, by
      have := h1.2 1; have h : (i 1).val < n := (i 1).isLt; simp at this; omega⟩ (i 2)) ?_,
    extractStridedSlice_apply _ X h1 i (ix3 (i 0) ⟨n + (i 1).val, by
      have := h1.2 1; have h : (i 1).val < n := (i 1).isLt; simp at this; omega⟩ (i 2)) ?_]
  · rfl
  all_goals
    intro d
    match d with
    | ⟨0, _⟩ => simp
    | ⟨1, _⟩ => simp
    | ⟨2, _⟩ => simp

/-- The two halves of the last axis added as slices. -/
theorem add_slices_last {a b m n : Nat} (X : FVec Ideal ⟨3, ![a, b, m]⟩ .f32)
    (h0 : (⟨3, ![a, b, m]⟩ : Shape).Slices ![0, 0, 0] ⟨3, ![a, b, n]⟩)
    (h1 : (⟨3, ![a, b, m]⟩ : Shape).Slices ![0, 0, n] ⟨3, ![a, b, n]⟩) :
    addf (extractStridedSlice ⟨3, ![a, b, n]⟩ ![0, 0, 0] X h0) (extractStridedSlice ⟨3, ![a, b, n]⟩ ![0, 0, n] X h1)
      = foldLast n (h1.2 2) X := by
  funext i
  show extractStridedSlice _ _ X h0 i + extractStridedSlice _ _ X h1 i = _
  rw [extractStridedSlice_apply _ X h0 i (ix3 (i 0) (i 1) ⟨(i 2).val, by
      have := h1.2 2; have h : (i 2).val < n := (i 2).isLt; simp at this; omega⟩) ?_,
    extractStridedSlice_apply _ X h1 i (ix3 (i 0) (i 1) ⟨n + (i 2).val, by
      have := h1.2 2; have h : (i 2).val < n := (i 2).isLt; simp at this; omega⟩) ?_]
  · rfl
  all_goals
    intro d
    match d with
    | ⟨0, _⟩ => simp
    | ⟨1, _⟩ => simp
    | ⟨2, _⟩ => simp

/-- The two halves of a matrix's columns added as slices. -/
theorem add_slices_cols {a m n : Nat} (X : FVec Ideal ⟨2, ![a, m]⟩ .f32)
    (h0 : (⟨2, ![a, m]⟩ : Shape).Slices ![0, 0] ⟨2, ![a, n]⟩)
    (h1 : (⟨2, ![a, m]⟩ : Shape).Slices ![0, n] ⟨2, ![a, n]⟩) :
    addf (extractStridedSlice ⟨2, ![a, n]⟩ ![0, 0] X h0) (extractStridedSlice ⟨2, ![a, n]⟩ ![0, n] X h1)
      = foldCols n (h1.2 1) X := by
  funext i
  show extractStridedSlice _ _ X h0 i + extractStridedSlice _ _ X h1 i = _
  rw [extractStridedSlice_apply _ X h0 i (ix2 (i 0) ⟨(i 1).val, by
      have := h1.2 1; have h : (i 1).val < n := (i 1).isLt; simp at this; omega⟩) ?_,
    extractStridedSlice_apply _ X h1 i (ix2 (i 0) ⟨n + (i 1).val, by
      have := h1.2 1; have h : (i 1).val < n := (i 1).isLt; simp at this; omega⟩) ?_]
  · rfl
  all_goals
    intro d
    match d with
    | ⟨0, _⟩ => simp
    | ⟨1, _⟩ => simp

/-- Halving the middle axis keeps its sum. -/
theorem sum_foldMid {a m c n : Nat} (hm : m = n + n) (h : n + n ≤ m) (X : FVec Ideal ⟨3, ![a, m, c]⟩ .f32)
    (b : Fin a) (v : Fin c) :
    ∑ j : Fin n, (foldMid n h X (ix3 b j v) : EReal) = ∑ j : Fin m, (X (ix3 b j v) : EReal) := by
  subst hm
  rw [Fin.sum_univ_add, ← Finset.sum_add_distrib]
  rfl

/-- Halving the last axis keeps its sum. -/
theorem sum_foldLast {a b m n : Nat} (hm : m = n + n) (h : n + n ≤ m) (X : FVec Ideal ⟨3, ![a, b, m]⟩ .f32)
    (i : Fin a) (j : Fin b) :
    ∑ k : Fin n, (foldLast n h X (ix3 i j k) : EReal) = ∑ k : Fin m, (X (ix3 i j k) : EReal) := by
  subst hm
  rw [Fin.sum_univ_add, ← Finset.sum_add_distrib]
  rfl

/-- Halving a matrix's columns keeps each row's sum. -/
theorem sum_foldCols {a m n : Nat} (hm : m = n + n) (h : n + n ≤ m) (X : FVec Ideal ⟨2, ![a, m]⟩ .f32) (i : Fin a) :
    ∑ k : Fin n, (foldCols n h X (ix2 i k) : EReal) = ∑ k : Fin m, (X (ix2 i k) : EReal) := by
  subst hm
  rw [Fin.sum_univ_add, ← Finset.sum_add_distrib]
  rfl

/-- Sixteen entries of the middle axis halved four times leave their sum. -/
theorem foldMid_sixteen {a c : Nat} (X : FVec Ideal ⟨3, ![a, 16, c]⟩ .f32) (b : Fin a) (v : Fin c) {h8 h4 h2 h1} :
    (foldMid 1 h1 (foldMid 2 h2 (foldMid 4 h4 (foldMid 8 h8 X))) (ix3 b 0 v) : EReal) = ∑ j : Fin 16, (X (ix3 b j v) : EReal) := by
  rw [← sum_foldMid (n := 8) rfl h8, ← sum_foldMid (n := 4) rfl h4, ← sum_foldMid (n := 2) rfl h2,
    ← sum_foldMid (n := 1) rfl h1, Fin.sum_univ_one]

/-- Sixteen entries of the last axis halved four times leave their sum. -/
theorem foldLast_sixteen {a b : Nat} (X : FVec Ideal ⟨3, ![a, b, 16]⟩ .f32) (i : Fin a) (j : Fin b) {h8 h4 h2 h1} :
    (foldLast 1 h1 (foldLast 2 h2 (foldLast 4 h4 (foldLast 8 h8 X))) (ix3 i j 0) : EReal) = ∑ k : Fin 16, (X (ix3 i j k) : EReal) := by
  rw [← sum_foldLast (n := 8) rfl h8, ← sum_foldLast (n := 4) rfl h4, ← sum_foldLast (n := 2) rfl h2,
    ← sum_foldLast (n := 1) rfl h1, Fin.sum_univ_one]

/-- A hundred and twenty-eight entries of the last axis halved seven times leave their sum. -/
theorem foldLast_128 {a b : Nat} (X : FVec Ideal ⟨3, ![a, b, 128]⟩ .f32) (i : Fin a) (j : Fin b) {h64 h32 h16 h8 h4 h2 h1} :
    (foldLast 1 h1 (foldLast 2 h2 (foldLast 4 h4 (foldLast 8 h8 (foldLast 16 h16 (foldLast 32 h32 (foldLast 64 h64 X))))))
      (ix3 i j 0) : EReal) = ∑ k : Fin 128, (X (ix3 i j k) : EReal) := by
  rw [← sum_foldLast (n := 64) rfl h64, ← sum_foldLast (n := 32) rfl h32, ← sum_foldLast (n := 16) rfl h16, ← foldLast_sixteen]

/-- A hundred and twenty-eight columns halved seven times leave each row's sum. -/
theorem foldCols_128 {a : Nat} (X : FVec Ideal ⟨2, ![a, 128]⟩ .f32) (i : Fin a) {h64 h32 h16 h8 h4 h2 h1} :
    (foldCols 1 h1 (foldCols 2 h2 (foldCols 4 h4 (foldCols 8 h8 (foldCols 16 h16 (foldCols 32 h32 (foldCols 64 h64 X))))))
      (ix2 i 0) : EReal) = ∑ k : Fin 128, (X (ix2 i k) : EReal) := by
  rw [← sum_foldCols (n := 64) rfl h64, ← sum_foldCols (n := 32) rfl h32, ← sum_foldCols (n := 16) rfl h16,
    ← sum_foldCols (n := 8) rfl h8, ← sum_foldCols (n := 4) rfl h4, ← sum_foldCols (n := 2) rfl h2,
    ← sum_foldCols (n := 1) rfl h1, Fin.sum_univ_one]

end Cert.Net

end
-- ==== Proof.Rounding.lean ====
/- The kernel rounds its operands by multiplying with 65537 and subtracting twice. Over the extended reals that is the
   identity. -/
module

public import Idealize.ShloMosaic.Lib.ValueIdx
public import Idealize.ShloMosaic.PureOps.Ideal.Laws

@[expose] public section

noncomputable section

namespace Cert.Net

open Idealize.ShloMosaic Idealize.ShloMosaic.ValueIdx

/-- The kernel's constant is 65537. -/
theorem scale_value : (Scalar.ofBits .f32 0x47800080#32 : Ideal .f32) = ((65537 : ℝ) : EReal) := by
  show Ideal.ofBits .f32 0x47800080#32 = _
  simp [Ideal.ofBits, Ideal.ieee, -EReal.coe_mul]
  norm_num

/-- `k v - (k v - v)` is `v` for every extended real `v`, the infinite ones included. -/
theorem round_scalar (v : EReal) :
    v * ((65537 : ℝ) : EReal) - (v * ((65537 : ℝ) : EReal) - v) = v := by
  have hk : (0 : ℝ) < 65537 := by norm_num
  induction v with
  | bot => rw [EReal.bot_mul_coe_of_pos hk]; rfl
  | top => rw [EReal.top_mul_coe_of_pos hk]; rfl
  | coe r =>
    rw [← EReal.coe_mul, ← EReal.coe_sub, ← EReal.coe_sub]
    congr 1
    ring

/-- The rounding of a vector leaves it as it is. -/
theorem round_self {s : Shape} (v : FVec Ideal s .f32) :
    subf (mulf v (broadcast s (Scalar.ofBits .f32 0x47800080#32)))
      (subf (mulf v (broadcast s (Scalar.ofBits .f32 0x47800080#32))) v) = v := by
  funext i
  show v i * (Scalar.ofBits .f32 0x47800080#32 : Ideal .f32)
    - (v i * (Scalar.ofBits .f32 0x47800080#32 : Ideal .f32) - v i) = v i
  rw [scale_value]
  exact round_scalar (v i)

end Cert.Net

end
-- ==== Proof.Spread.lean ====
/- Vectors of rank three that repeat a row, a column or a matrix of a smaller vector along the other axes. -/
module

public import proofs.«01_k».proof.Proof.Folds
public import proofs.«01_k».proof.Proof.Rounding
public import Idealize.ShloMosaic.Lib.ValueLayout

@[expose] public section

noncomputable section

namespace Cert.Net

open Idealize.ShloMosaic Idealize.ShloMosaic.ValueIdx

/-- Row `c` of a matrix, repeated along the two leading axes. -/
def rowOf {k n2 : Nat} (n0 n1 : Nat) (a : FVec Ideal ⟨2, ![k, n2]⟩ .f32) (c : Fin k) : FVec Ideal ⟨3, ![n0, n1, n2]⟩ .f32 :=
  fun i => a (ix2 c (i 2))

/-- Row `(r, c)` of a rank-three vector, repeated along the two leading axes. -/
def cellOf {k l n2 : Nat} (n0 n1 : Nat) (w : FVec Ideal ⟨3, ![k, l, n2]⟩ .f32) (r : Fin k) (c : Fin l) :
    FVec Ideal ⟨3, ![n0, n1, n2]⟩ .f32 := fun i => w (ix3 r c (i 2))

/-- A matrix over the two leading axes, repeated along the last one. -/
def alongLast {n0 n1 : Nat} (n2 : Nat) (t : FVec Ideal ⟨2, ![n0, n1]⟩ .f32) : FVec Ideal ⟨3, ![n0, n1, n2]⟩ .f32 :=
  fun i => t (ix2 (i 0) (i 1))

/-- A column over the middle axis, repeated along the two others. -/
def alongMid {n1 : Nat} (n0 n2 : Nat) (a : FVec Ideal ⟨2, ![n1, 1]⟩ .f32) : FVec Ideal ⟨3, ![n0, n1, n2]⟩ .f32 :=
  fun i => a (ix2 (i 1) 0)

/-- A matrix over the first and the last axis, repeated along the middle one. -/
def acrossMid {n0 n2 : Nat} (n1 : Nat) (x : FVec Ideal ⟨2, ![n0, n2]⟩ .f32) : FVec Ideal ⟨3, ![n0, n1, n2]⟩ .f32 :=
  fun i => x (ix2 (i 0) (i 2))

/-- A vector over the last axis alone repeats its entry there. -/
theorem repeat_last {n0 n1 n2 : Nat} (v : FVec Ideal ⟨1, ![n2]⟩ .f32) (h2 h3) (i : (⟨3, ![n0, n1, n2]⟩ : Shape).Idx) :
    broadcastTo ⟨3, ![n0, n1, n2]⟩ (shapeCast ⟨3, ![1, 1, n2]⟩ v h2) h3 i = v (ix1 (i 2)) := by
  rw [broadcastTo_apply _ h3 i (ix3 0 0 (i 2)) (by
      intro d
      match d with
      | ⟨0, _⟩ => simp
      | ⟨1, _⟩ => simp
      | ⟨2, _⟩ =>
        simp only [ix3, Fin.reduceFinMk]
        split
        · rename_i h
          have hl : (i 2).val < n2 := (i 2).isLt
          have : n2 = 1 := h
          show (i 2).val = 0
          omega
        · rfl),
    shapeCast_apply _ h2 _ (ix1 (i 2)) (by
      rw [Shape.rowMajor_val_three, Shape.rowMajor_val_one]
      show (i 2).val = (0 * 1 + 0) * n2 + (i 2).val
      omega)]

/-- A sliced row of a matrix, repeated. -/
theorem broadcast_row {k n0 n1 n2 : Nat} (a : FVec Ideal ⟨2, ![k, n2]⟩ .f32) (c : Nat) (h0 h1 h2 h3) :
    broadcastTo ⟨3, ![n0, n1, n2]⟩ (shapeCast ⟨3, ![1, 1, n2]⟩ (shapeCast ⟨1, ![n2]⟩
      (extractStridedSlice ⟨2, ![1, n2]⟩ ![c, 0] a h0) h1) h2) h3
      = rowOf n0 n1 a ⟨c, by have := h0.2 0; simp at this; omega⟩ := by
  funext i
  rw [repeat_last, shapeCast_apply _ h1 _ (ix2 0 (i 2)) (by
      rw [Shape.rowMajor_val_two, Shape.rowMajor_val_one]
      show 0 * n2 + (i 2).val = (i 2).val
      omega),
    extractStridedSlice_apply _ a h0 _ (ix2 ⟨c, by have := h0.2 0; simp at this; omega⟩ (i 2)) (by
      intro d
      match d with
      | ⟨0, _⟩ => simp
      | ⟨1, _⟩ => simp)]
  rfl

/-- A sliced row of a rank-three vector, repeated. -/
theorem broadcast_cell {k l n0 n1 n2 : Nat} (w : FVec Ideal ⟨3, ![k, l, n2]⟩ .f32) (r c : Nat) (h0 h1 h2 h3) :
    broadcastTo ⟨3, ![n0, n1, n2]⟩ (shapeCast ⟨3, ![1, 1, n2]⟩ (shapeCast ⟨1, ![n2]⟩
      (extractStridedSlice ⟨3, ![1, 1, n2]⟩ ![r, c, 0] w h0) h1) h2) h3
      = cellOf n0 n1 w ⟨r, by have := h0.2 0; simp at this; omega⟩ ⟨c, by have := h0.2 1; simp at this; omega⟩ := by
  funext i
  rw [repeat_last, shapeCast_apply _ h1 _ (ix3 0 0 (i 2)) (by
      rw [Shape.rowMajor_val_three, Shape.rowMajor_val_one]
      show (0 * 1 + 0) * n2 + (i 2).val = (i 2).val
      omega),
    extractStridedSlice_apply _ w h0 _ (ix3 ⟨r, by have := h0.2 0; simp at this; omega⟩
      ⟨c, by have := h0.2 1; simp at this; omega⟩ (i 2)) (by
      intro d
      match d with
      | ⟨0, _⟩ => simp
      | ⟨1, _⟩ => simp
      | ⟨2, _⟩ => simp)]
  rfl

/-- A matrix recast with a last axis of length one and repeated along it. -/
theorem broadcast_alongLast {n0 n1 n2 : Nat} (t : FVec Ideal ⟨2, ![n0, n1]⟩ .f32) (h0 h1) :
    broadcastTo ⟨3, ![n0, n1, n2]⟩ (shapeCast ⟨3, ![n0, n1, 1]⟩ t h0) h1 = alongLast n2 t := by
  funext i
  rw [broadcastTo_apply _ h1 i (ix3 (i 0) (i 1) 0) (by
      intro d
      match d with
      | ⟨0, _⟩ =>
        simp only [ix3, Fin.reduceFinMk]
        have hl : (i 0).val < n0 := (i 0).isLt
        split
        · rename_i h
          have : n0 = 1 := h
          show (i 0).val = 0
          omega
        · rfl
      | ⟨1, _⟩ =>
        simp only [ix3, Fin.reduceFinMk]
        have hl : (i 1).val < n1 := (i 1).isLt
        split
        · rename_i h
          have : n1 = 1 := h
          show (i 1).val = 0
          omega
        · rfl
      | ⟨2, _⟩ => simp),
    shapeCast_apply _ h0 _ (ix2 (i 0) (i 1)) (by
      rw [Shape.rowMajor_val_three, Shape.rowMajor_val_two]
      show (i 0).val * n1 + (i 1).val = ((i 0).val * n1 + (i 1).val) * 1 + 0
      omega)]
  rfl

/-- A column recast over the middle axis and repeated along the two others. -/
theorem broadcast_alongMid {n0 n1 n2 : Nat} (a : FVec Ideal ⟨2, ![n1, 1]⟩ .f32) (h0 h1 h2) :
    broadcastTo ⟨3, ![n0, n1, n2]⟩ (shapeCast ⟨3, ![1, n1, 1]⟩ (shapeCast ⟨1, ![n1]⟩ a h0) h1) h2 = alongMid n0 n2 a := by
  funext i
  rw [broadcastTo_apply _ h2 i (ix3 0 (i 1) 0) (by
      intro d
      match d with
      | ⟨0, _⟩ => simp
      | ⟨1, _⟩ =>
        simp only [ix3, Fin.reduceFinMk]
        have hl : (i 1).val < n1 := (i 1).isLt
        split
        · rename_i h
          have : n1 = 1 := h
          show (i 1).val = 0
          omega
        · rfl
      | ⟨2, _⟩ => simp),
    shapeCast_apply _ h1 _ (ix1 (i 1)) (by
      rw [Shape.rowMajor_val_three, Shape.rowMajor_val_one]
      show (i 1).val = (0 * n1 + (i 1).val) * 1 + 0
      omega),
    shapeCast_apply _ h0 _ (ix2 (i 1) 0) (by
      rw [Shape.rowMajor_val_two, Shape.rowMajor_val_one]
      show (i 1).val * 1 + 0 = (i 1).val
      omega)]
  rfl

/-- A matrix recast with a middle axis of length one and repeated along it. -/
theorem broadcast_acrossMid {n0 n1 n2 : Nat} (x : FVec Ideal ⟨2, ![n0, n2]⟩ .f32) (h0 h1) :
    broadcastTo ⟨3, ![n0, n1, n2]⟩ (shapeCast ⟨3, ![n0, 1, n2]⟩ x h0) h1 = acrossMid n1 x := by
  funext i
  rw [broadcastTo_apply _ h1 i (ix3 (i 0) 0 (i 2)) (by
      intro d
      match d with
      | ⟨0, _⟩ =>
        simp only [ix3, Fin.reduceFinMk]
        have hl : (i 0).val < n0 := (i 0).isLt
        split
        · rename_i h
          have : n0 = 1 := h
          show (i 0).val = 0
          omega
        · rfl
      | ⟨1, _⟩ => simp
      | ⟨2, _⟩ =>
        simp only [ix3, Fin.reduceFinMk]
        have hl : (i 2).val < n2 := (i 2).isLt
        split
        · rename_i h
          have : n2 = 1 := h
          show (i 2).val = 0
          omega
        · rfl),
    shapeCast_apply _ h0 _ (ix2 (i 0) (i 2)) (by
      rw [Shape.rowMajor_val_three, Shape.rowMajor_val_two]
      show (i 0).val * n2 + (i 2).val = ((i 0).val * 1 + 0) * n2 + (i 2).val
      rw [Nat.mul_one, Nat.add_zero])]
  rfl

end Cert.Net

end
-- ==== Proof.Layer.lean ====
/- One layer as a vector expression: every copy's two hidden products, before any sum over copies or inputs. -/
module

public import proofs.«01_k».proof.Proof.Spread

@[expose] public section

noncomputable section

namespace Cert.Net

open Idealize.ShloMosaic Idealize.ShloMosaic.ValueIdx

/-- One scalar network: the input scaled by four first weights, mixed by a four-by-four matrix, and combined by four last
    weights. -/
def cell (a : Fin 4 → EReal) (w : Fin 4 → Fin 4 → EReal) (e : Fin 4 → EReal) (x : EReal) : EReal :=
  ∑ r, e r * ∑ c, w r c * (a c * x)

/-- Four vectors, each multiplied by its partner and added up from the left. -/
def dot4 {s : Shape} (u v : Fin 4 → FVec Ideal s .f32) : FVec Ideal s .f32 :=
  addf (addf (addf (mulf (u 0) (v 0)) (mulf (u 1) (v 1))) (mulf (u 2) (v 2))) (mulf (u 3) (v 3))

/-- The entries of `dot4` are sums of four products. -/
theorem dot4_apply {s : Shape} (u v : Fin 4 → FVec Ideal s .f32) (i : s.Idx) :
    (dot4 u v i : EReal) = ∑ c, (u c i : EReal) * (v c i : EReal) := by
  rw [Fin.sum_univ_four]
  rfl

/-- The scalar network entry by entry, its weights and its inputs spread over one shape. -/
def cellVec {s : Shape} (a : Fin 4 → FVec Ideal s .f32) (w : Fin 4 → Fin 4 → FVec Ideal s .f32) (e : Fin 4 → FVec Ideal s .f32)
    (x : FVec Ideal s .f32) : FVec Ideal s .f32 :=
  dot4 e (fun r => dot4 (w r) (fun c => mulf (a c) x))

/-- The entries of `cellVec` are scalar networks. -/
theorem cellVec_apply {s : Shape} (a : Fin 4 → FVec Ideal s .f32) (w : Fin 4 → Fin 4 → FVec Ideal s .f32)
    (e : Fin 4 → FVec Ideal s .f32) (x : FVec Ideal s .f32) (i : s.Idx) :
    (cellVec a w e x i : EReal) = cell (fun c => a c i) (fun r c => w r c i) (fun r => e r i) (x i) := by
  rw [cellVec, dot4_apply]
  refine Finset.sum_congr rfl fun r _ => congrArg _ ?_
  rw [dot4_apply]
  rfl

/-- A hidden layer before its sums: input `j` of row `b` through the scalar network with the weights in column `v`. -/
def layerVec (t : FVec Ideal ⟨2, ![32, 16]⟩ .f32) (a : FVec Ideal ⟨2, ![4, 256]⟩ .f32) (w : FVec Ideal ⟨3, ![4, 4, 256]⟩ .f32)
    (e : FVec Ideal ⟨2, ![4, 256]⟩ .f32) : FVec Ideal ⟨3, ![32, 16, 256]⟩ .f32 :=
  cellVec (fun c => rowOf 32 16 a c) (fun r c => cellOf 32 16 w r c) (fun r => rowOf 32 16 e r) (alongLast 256 t)

/-- The middle axis of sixteen halved four times. -/
def treeMid {a c : Nat} (X : FVec Ideal ⟨3, ![a, 16, c]⟩ .f32) : FVec Ideal ⟨3, ![a, 1, c]⟩ .f32 :=
  foldMid 1 (by decide) (foldMid 2 (by decide) (foldMid 4 (by decide) (foldMid 8 (by decide) X)))

/-- The last axis of sixteen halved four times. -/
def treeLast {a b : Nat} (X : FVec Ideal ⟨3, ![a, b, 16]⟩ .f32) : FVec Ideal ⟨3, ![a, b, 1]⟩ .f32 :=
  foldLast 1 (by decide) (foldLast 2 (by decide) (foldLast 4 (by decide) (foldLast 8 (by decide) X)))

/-- A hidden layer: the sum over the inputs and over the sixteen copies of each output. -/
def layer (t : FVec Ideal ⟨2, ![32, 16]⟩ .f32) (a : FVec Ideal ⟨2, ![4, 256]⟩ .f32) (w : FVec Ideal ⟨3, ![4, 4, 256]⟩ .f32)
    (e : FVec Ideal ⟨2, ![4, 256]⟩ .f32) : FVec Ideal ⟨2, ![32, 16]⟩ .f32 := fun i =>
  ∑ k : Fin 16, ∑ j : Fin 16, (layerVec t a w e (ix3 (i 0) j ⟨16 * (i 1).val + k.val, by
    have h : (i 1).val < 16 := (i 1).isLt; omega⟩) : EReal)

/-- The two halved sums, with the recast between them, are the layer's sums. -/
theorem trees_layer (t : FVec Ideal ⟨2, ![32, 16]⟩ .f32) (a : FVec Ideal ⟨2, ![4, 256]⟩ .f32) (w : FVec Ideal ⟨3, ![4, 4, 256]⟩ .f32)
    (e : FVec Ideal ⟨2, ![4, 256]⟩ .f32) (h0 h1 h2) :
    shapeCast ⟨2, ![32, 16]⟩ (treeLast (shapeCast ⟨3, ![32, 16, 16]⟩ (shapeCast ⟨2, ![32, 256]⟩
      (treeMid (layerVec t a w e)) h0) h1)) h2 = layer t a w e := by
  have key : ∀ (n : Fin 32) (v : Fin 16), shapeCast ⟨2, ![32, 16]⟩ (treeLast (shapeCast ⟨3, ![32, 16, 16]⟩
      (shapeCast ⟨2, ![32, 256]⟩ (treeMid (layerVec t a w e)) h0) h1)) h2 (ix2 n v) = layer t a w e (ix2 n v) := by
    intro n v
    rw [shapeCast_apply _ h2 _ (ix3 n v 0) (by
        rw [Shape.rowMajor_val_three, Shape.rowMajor_val_two]
        show (n.val * 16 + v.val) * 1 + 0 = n.val * 16 + v.val
        omega),
      treeLast, foldLast_sixteen]
    refine Finset.sum_congr rfl fun k _ => ?_
    rw [shapeCast_apply _ h1 _ (ix2 n ⟨16 * v.val + k.val, by omega⟩) (by
        rw [Shape.rowMajor_val_three, Shape.rowMajor_val_two]
        show n.val * 256 + (16 * v.val + k.val) = (n.val * 16 + v.val) * 16 + k.val
        omega),
      shapeCast_apply _ h0 _ (ix3 n 0 ⟨16 * v.val + k.val, by omega⟩) (by
        rw [Shape.rowMajor_val_three, Shape.rowMajor_val_two]
        show (n.val * 1 + 0) * 256 + (16 * v.val + k.val) = n.val * 256 + (16 * v.val + k.val)
        omega),
      treeMid, foldMid_sixteen]
  funext i
  rw [eq_ix2 i]
  exact key _ _

/-- A layer's entry is a double sum of scalar networks. -/
theorem layer_apply (t : FVec Ideal ⟨2, ![32, 16]⟩ .f32) (a : FVec Ideal ⟨2, ![4, 256]⟩ .f32) (w : FVec Ideal ⟨3, ![4, 4, 256]⟩ .f32)
    (e : FVec Ideal ⟨2, ![4, 256]⟩ .f32) (n : Fin 32) (v : Fin 16) :
    (layer t a w e (ix2 n v) : EReal) = ∑ k : Fin 16, ∑ j : Fin 16,
      cell (fun c => a (ix2 c ⟨16 * v.val + k.val, by omega⟩)) (fun r c => w (ix3 r c ⟨16 * v.val + k.val, by omega⟩))
        (fun r => e (ix2 r ⟨16 * v.val + k.val, by omega⟩)) (t (ix2 n j)) := by
  refine Finset.sum_congr rfl fun k _ => Finset.sum_congr rfl fun j _ => ?_
  rw [layerVec, cellVec_apply]
  rfl

end Cert.Net

end
-- ==== Proof.TailValue.lean ====
/- The block the last grid point stores, as five layers with a residual added after the second and the fourth. -/
module

public import proofs.«01_k».proof.Proof.Layer
public import proofs.«01_k».proof.Proof.Tail

@[expose] public section

set_option maxRecDepth 16384

noncomputable section

namespace Cert.Net

open Idealize.ShloMosaic Idealize.ShloMosaic.ValueIdx Cert.KernelIdeal.Gen Cert.KernelIdeal

/-- One layer's slab of a stack of matrices, as a matrix. -/
abbrev slab2 (p : FVec Ideal S1x4x256 .f32) : FVec Ideal S4x256 .f32 := shapeCast S4x256 p shapeCasts_S1x4x256_S4x256

/-- One layer's slab of a stack of rank-three vectors. -/
abbrev slab3 (q : FVec Ideal S1x4x4x256 .f32) : FVec Ideal S4x4x256 .f32 :=
  shapeCast S4x4x256 q shapeCasts_S1x4x4x256_S4x4x256

/-- The first hidden layer, completed by the opening of the second one. -/
theorem hid0_eq (s : FVec Ideal S16x32 .f32) (p : FVec Ideal S1x4x256 .f32) (q : FVec Ideal S1x4x4x256 .f32)
    (r : FVec Ideal S1x4x256 .f32) :
    k0_pay40 (hid0 s p q r) = layer (k0_pay21 s) (slab2 p) (slab3 q) (slab2 r) := by
  rw [← trees_layer _ _ _ _ shapeCasts_S32x1x256_S32x256 shapeCasts_S32x256_S32x16x16 shapeCasts_S32x16x1_S32x16]
  simp only [hid0, k0_pay22, k0_pay23, k0_pay24, k0_pay25, k0_pay26, k0_pay27, k0_pay28, k0_pay29, k0_pay30, k0_pay31,
    k0_pay32, k0_pay33, k0_pay34, k0_pay35, k0_pay36, k0_pay40, round_self, broadcast_row, broadcast_cell,
    broadcast_alongLast, add_slices_mid, add_slices_last]
  rfl

/-- The second hidden layer with the scratch buffer's transpose added, completed by the opening of the third one. -/
theorem hid1_eq (v7 : FVec Ideal S32x16 .f32) (t : FVec Ideal S32x16x8 .f32) (p : FVec Ideal S1x4x256 .f32)
    (q : FVec Ideal S1x4x4x256 .f32) (r : FVec Ideal S1x4x256 .f32) :
    k0_pay54 v7 (hid1 t p q r).1 (hid1 t p q r).2 = addf (layer (k0_pay40 t) (slab2 p) (slab3 q) (slab2 r)) v7 := by
  rw [← trees_layer _ _ _ _ shapeCasts_S32x1x256_S32x256 shapeCasts_S32x256_S32x16x16 shapeCasts_S32x16x1_S32x16]
  generalize hu : k0_pay40 t = u
  simp only [hid1, k0_pay37, k0_pay38, k0_pay39, k0_pay41, k0_pay42, k0_pay43, k0_pay44, k0_pay45, k0_pay46, k0_pay47,
    k0_pay48, k0_pay49, k0_pay50, k0_pay51, k0_pay52, k0_pay53, k0_pay54, hu, round_self, broadcast_row, broadcast_cell,
    broadcast_alongLast, add_slices_mid, add_slices_last]
  rfl

/-- The third hidden layer, completed by the opening of the fourth one. -/
theorem hid2_eq (v7 : FVec Ideal S32x16 .f32) (x y : FVec Ideal S32x1x256 .f32) (p : FVec Ideal S1x4x256 .f32)
    (q : FVec Ideal S1x4x4x256 .f32) (r : FVec Ideal S1x4x256 .f32) :
    k0_pay74 (hid2 v7 x y p q r).1 (hid2 v7 x y p q r).2
      = layer (k0_pay54 v7 x y) (slab2 p) (slab3 q) (slab2 r) := by
  rw [← trees_layer _ _ _ _ shapeCasts_S32x1x256_S32x256 shapeCasts_S32x256_S32x16x16 shapeCasts_S32x16x1_S32x16]
  generalize hu : k0_pay54 v7 x y = u
  simp only [hid2, k0_pay55, k0_pay56, k0_pay57, k0_pay58, k0_pay59, k0_pay60, k0_pay61, k0_pay62, k0_pay63, k0_pay64, k0_pay65,
    k0_pay66, k0_pay67, k0_pay68, k0_pay69, k0_pay70, k0_pay74, hu, round_self, broadcast_row, broadcast_cell,
    broadcast_alongLast, add_slices_mid, add_slices_last]
  rfl

/-- The fourth hidden layer with the second one's result added. -/
theorem hid3_eq (g : FVec Ideal S32x16 .f32) (x : FVec Ideal S32x8x256 .f32) (y : FVec Ideal S32x4x256 .f32)
    (p : FVec Ideal S1x4x256 .f32) (q : FVec Ideal S1x4x4x256 .f32) (r : FVec Ideal S1x4x256 .f32) :
    hid3 g x y p q r = addf (layer (k0_pay74 x y) (slab2 p) (slab3 q) (slab2 r)) g := by
  rw [← trees_layer _ _ _ _ shapeCasts_S32x1x256_S32x256 shapeCasts_S32x256_S32x16x16 shapeCasts_S32x16x1_S32x16]
  generalize hu : k0_pay74 x y = u
  simp only [hid3, k0_pay71, k0_pay72, k0_pay73, k0_pay75, k0_pay76, k0_pay77, k0_pay78, k0_pay79, k0_pay80, k0_pay81,
    k0_pay82, k0_pay83, k0_pay84, k0_pay85, k0_pay86, k0_pay87, k0_pay88, hu, round_self, broadcast_row, broadcast_cell,
    broadcast_alongLast, add_slices_mid, add_slices_last]
  rfl

/-- The last layer. -/
theorem lastRow_eq (t : FVec Ideal S32x16 .f32) (u : FVec Ideal S4x256 .f32) (v : FVec Ideal S4x4x256 .f32)
    (w : FVec Ideal S4x256 .f32) : lastRow t u v w = layer t u v w := by
  rw [← trees_layer _ _ _ _ shapeCasts_S32x1x256_S32x256 shapeCasts_S32x256_S32x16x16 shapeCasts_S32x16x1_S32x16]
  simp only [lastRow, k0_pay89, k0_pay90, k0_pay91, k0_pay92, k0_pay93, k0_pay94, k0_pay95, k0_pay96, k0_pay97, k0_pay98, k0_pay99,
    k0_pay100, k0_pay101, k0_pay102, k0_pay103, k0_pay104, k0_pay105, k0_pay2, shapeCast_self, round_self, broadcast_row, broadcast_cell,
    broadcast_alongLast, add_slices_mid, add_slices_last]
  rfl

/-- The layers after the first one: four hidden layers, the input of each pair added to the pair's result, and the last
    layer. -/
def finish (t : FVec Ideal S32x16 .f32) (a : Fin 4 → FVec Ideal S4x256 .f32) (w : Fin 4 → FVec Ideal S4x4x256 .f32)
    (e : Fin 4 → FVec Ideal S4x256 .f32) (u : FVec Ideal S4x256 .f32) (v : FVec Ideal S4x4x256 .f32)
    (z : FVec Ideal S4x256 .f32) : FVec Ideal S32x16 .f32 :=
  let t2 := addf (layer (layer t (a 0) (w 0) (e 0)) (a 1) (w 1) (e 1)) t
  let t4 := addf (layer (layer t2 (a 2) (w 2) (e 2)) (a 3) (w 3) (e 3)) t2
  layer t4 u v z

/-- One layer's slab of a stack of matrices, loaded, reads the stack. -/
theorem load_slab2 (X : Vec Ideal S4x4x256 .f32) (k : Nat) (hk : k < 4) (hR) :
    slab2 (View.ld (Val := Elt Ideal) X (Rect.unit (s := S4x4x256) ![k, 0, 0] S1x4x256.size hR))
      = fun i => X (ix3 ⟨k, hk⟩ (i 0) (i 1)) := by
  have key : ∀ (c : Fin 4) (v : Fin 256), slab2 (View.ld (Val := Elt Ideal) X
      (Rect.unit (s := S4x4x256) ![k, 0, 0] S1x4x256.size hR)) (ix2 c v) = X (ix3 ⟨k, hk⟩ c v) := by
    intro c v
    rw [slab2, shapeCast_1ab_ab_apply, View.ld_unit]
    refine extractStridedSlice_apply _ X _ _ (ix3 ⟨k, hk⟩ c v) fun d => ?_
    match d with
    | ⟨0, _⟩ => show k = k + 0; omega
    | ⟨1, _⟩ => show c.val = 0 + c.val; omega
    | ⟨2, _⟩ => show v.val = 0 + v.val; omega
  funext i
  rw [eq_ix2 i]
  exact key _ _

/-- One layer's slab of a stack of rank-three vectors, loaded, reads the stack. -/
theorem load_slab3 (X : Vec Ideal S4x4x4x256 .f32) (k : Nat) (hk : k < 4) (hR) :
    slab3 (View.ld (Val := Elt Ideal) X (Rect.unit (s := S4x4x4x256) ![k, 0, 0, 0] S1x4x4x256.size hR))
      = fun i => X (ix4 ⟨k, hk⟩ (i 0) (i 1) (i 2)) := by
  have key : ∀ (r c : Fin 4) (v : Fin 256), slab3 (View.ld (Val := Elt Ideal) X
      (Rect.unit (s := S4x4x4x256) ![k, 0, 0, 0] S1x4x4x256.size hR)) (ix3 r c v) = X (ix4 ⟨k, hk⟩ r c v) := by
    intro r c v
    rw [slab3, shapeCast_1abc_abc_apply, View.ld_unit]
    refine extractStridedSlice_apply _ X _ _ (ix4 ⟨k, hk⟩ r c v) fun d => ?_
    match d with
    | ⟨0, _⟩ => show k = k + 0; omega
    | ⟨1, _⟩ => show r.val = 0 + r.val; omega
    | ⟨2, _⟩ => show c.val = 0 + c.val; omega
    | ⟨3, _⟩ => show v.val = 0 + v.val; omega
  funext i
  rw [eq_ix3 i]
  exact key _ _ _

/-- The scratch buffer's transpose reads the scratch buffer. -/
theorem transposed (s : FVec Ideal S16x32 .f32) : k0_pay21 (F := Ideal) s = fun i => s (ix2 (i 1) (i 0)) := by
  have key : ∀ (b : Fin 32) (g : Fin 16), k0_pay21 (F := Ideal) s (ix2 b g) = s (ix2 g b) := fun b g =>
    transpose_ix2_apply s transposes_S16x32_p1_0_S32x16 b g
  funext i
  rw [eq_ix2 i]
  exact key _ _

/-- The block stored at the last point is the later layers over the scratch buffer's transpose. -/
theorem tailBlock_eq (s : FVec Ideal S16x32 .f32) (x4 : FVec Ideal S4x4x256 .f32) (x5 : FVec Ideal S4x4x4x256 .f32)
    (x6 : FVec Ideal S4x4x256 .f32) (x7 : FVec Ideal S4x256 .f32) (x8 : FVec Ideal S4x4x256 .f32) (x9 : FVec Ideal S4x256 .f32) :
    tailBlock (F := Ideal) s x4 x5 x6 x7 x8 x9
      = finish (fun i => s (ix2 (i 1) (i 0))) (fun l i => x4 (ix3 l (i 0) (i 1))) (fun l i => x5 (ix4 l (i 0) (i 1) (i 2)))
          (fun l i => x6 (ix3 l (i 0) (i 1))) x7 x8 x9 := by
  simp only [tailBlock, lastRow_eq, hid3_eq, hid2_eq, hid1_eq, hid0_eq, transposed]
  rw [load_slab2 x4 0 (by decide), load_slab2 x4 1 (by decide), load_slab2 x4 2 (by decide), load_slab2 x4 3 (by decide),
    load_slab2 x6 0 (by decide), load_slab2 x6 1 (by decide), load_slab2 x6 2 (by decide), load_slab2 x6 3 (by decide),
    load_slab3 x5 0 (by decide), load_slab3 x5 1 (by decide), load_slab3 x5 2 (by decide), load_slab3 x5 3 (by decide)]
  rfl

end Cert.Net

end
-- ==== Proof.Net.lean ====
/- The function both programs compute: an opening layer over the input row, four hidden layers in two blocks with a carried
   sum each, and a closing layer, from the flat lists of weights. -/
module

public import proofs.«01_k».proof.Proof.TailValue

@[expose] public section

noncomputable section

namespace Cert.Net

open Idealize.ShloMosaic Idealize.ShloMosaic.ValueIdx

/-- Where copy `n` keeps its first weight `c`: twenty places to a copy, five to a weight, the last of the five used. -/
def firstAt {N P : Nat} (hP : P = 20 * N) (n : Fin N) (c : Fin 4) : Fin P := ⟨20 * n.val + 5 * c.val + 4, by omega⟩

/-- Where copy `n` keeps entry `(r, c)` of its matrix: sixteen places to a copy. -/
def mixAt {N P : Nat} (hP : P = 16 * N) (n : Fin N) (r c : Fin 4) : Fin P := ⟨16 * n.val + 4 * r.val + c.val, by omega⟩

/-- Where copy `n` keeps its last weight `r`: four places to a copy. -/
def lastAt {N P : Nat} (hP : P = 4 * N) (n : Fin N) (r : Fin 4) : Fin P := ⟨4 * n.val + r.val, by omega⟩

/-- The first weights of a hidden layer as four rows. -/
def firstOf (w : FVec Ideal ⟨1, ![5120]⟩ .f32) : FVec Ideal ⟨2, ![4, 256]⟩ .f32 := fun i =>
  w (ix1 (firstAt (N := 256) rfl (i 1) (i 0)))

/-- The matrices of a hidden layer as four by four rows. -/
def mixOf (w : FVec Ideal ⟨1, ![4096]⟩ .f32) : FVec Ideal ⟨3, ![4, 4, 256]⟩ .f32 := fun i =>
  w (ix1 (mixAt (N := 256) rfl (i 2) (i 0) (i 1)))

/-- The last weights of a hidden layer as four rows. -/
def lastOf (w : FVec Ideal ⟨1, ![1024]⟩ .f32) : FVec Ideal ⟨2, ![4, 256]⟩ .f32 := fun i =>
  w (ix1 (lastAt (N := 256) rfl (i 1) (i 0)))

/-- Row `l` of a stack of flat lists. -/
def listOf {P : Nat} (w : FVec Ideal ⟨2, ![4, P]⟩ .f32) (l : Fin 4) : FVec Ideal ⟨1, ![P]⟩ .f32 := fun i => w (ix2 l (i 0))

/-- Copy `k` of output `v`, of `G` copies to an output. -/
def copyAt {N G : Nat} (hN : N = 16 * G) (v : Fin 16) (k : Fin G) : Fin N := ⟨G * v.val + k.val, by
  have := Nat.mul_le_mul_left G (show v.val + 1 ≤ 16 by omega); rw [Nat.mul_add] at this; omega⟩

/-- The opening layer: output `g` of row `b` sums, over its 128 copies and the 128 inputs, the scalar networks. -/
def opening (x : FVec Ideal ⟨2, ![32, 128]⟩ .f32) (w0 : FVec Ideal ⟨1, ![40960]⟩ .f32) (w1 : FVec Ideal ⟨1, ![32768]⟩ .f32)
    (w2 : FVec Ideal ⟨1, ![8192]⟩ .f32) : FVec Ideal ⟨2, ![32, 16]⟩ .f32 := fun i =>
  (∑ k : Fin 128, ∑ d : Fin 128, cell (fun c => w0 (ix1 (firstAt rfl (copyAt (N := 2048) rfl (i 1) k) c)))
    (fun r c => w1 (ix1 (mixAt rfl (copyAt (N := 2048) rfl (i 1) k) r c)))
    (fun r => w2 (ix1 (lastAt rfl (copyAt (N := 2048) rfl (i 1) k) r))) (x (ix2 (i 0) d)) : EReal)

/-- The whole network. -/
def net (x0 : FVec Ideal ⟨2, ![32, 128]⟩ .f32) (x1 : FVec Ideal ⟨1, ![40960]⟩ .f32) (x2 : FVec Ideal ⟨1, ![32768]⟩ .f32)
    (x3 : FVec Ideal ⟨1, ![8192]⟩ .f32) (x4 : FVec Ideal ⟨2, ![4, 5120]⟩ .f32) (x5 : FVec Ideal ⟨2, ![4, 4096]⟩ .f32)
    (x6 : FVec Ideal ⟨2, ![4, 1024]⟩ .f32) (x7 : FVec Ideal ⟨1, ![5120]⟩ .f32) (x8 : FVec Ideal ⟨1, ![4096]⟩ .f32)
    (x9 : FVec Ideal ⟨1, ![1024]⟩ .f32) : FVec Ideal ⟨2, ![32, 16]⟩ .f32 :=
  finish (opening x0 x1 x2 x3) (fun l => firstOf (listOf x4 l)) (fun l => mixOf (listOf x5 l)) (fun l => lastOf (listOf x6 l))
    (firstOf x7) (mixOf x8) (lastOf x9)

end Cert.Net
-- ==== Proof.Arranged.lean ====
/- The kernel's rearrangements of the flat lists of weights before its grid starts. -/
module

public import proofs.«01_k».proof.Proof.Net

@[expose] public section

noncomputable section

namespace Cert.Net

open Idealize.ShloMosaic Idealize.ShloMosaic.ValueIdx

/-- A flat list laid out in rows of `q`. -/
theorem rows_apply {n q P : Nat} (x : FVec Ideal ⟨1, ![P]⟩ .f32) (h : (⟨1, ![P]⟩ : Shape).ShapeCasts ⟨2, ![n, q]⟩)
    (a : Fin n) (b : Fin q) (p : Fin P) (hp : p.val = a.val * q + b.val) :
    shapeCast ⟨2, ![n, q]⟩ x h (ix2 a b) = x (ix1 p) :=
  shapeCast_apply x h _ _ (by
    rw [Shape.rowMajor_val_one, Shape.rowMajor_val_two]
    exact hp)

/-- The first weights of one hidden layer, taken out of the padded list and turned: `firstOf`. -/
theorem first_flat (x : FVec Ideal ⟨1, ![5120]⟩ .f32) (h1 : (⟨1, ![5120]⟩ : Shape).ShapeCasts ⟨3, ![256, 4, 5]⟩)
    (h2 : (⟨3, ![256, 4, 5]⟩ : Shape).Slices ![0, 0, 4] ⟨3, ![256, 4, 1]⟩)
    (h3 : (⟨3, ![256, 4, 1]⟩ : Shape).ShapeCasts ⟨2, ![256, 4]⟩) (h4 : (⟨2, ![256, 4]⟩ : Shape).Transposes [1, 0] ⟨2, ![4, 256]⟩) :
    transpose ⟨2, ![4, 256]⟩ [1, 0] (shapeCast ⟨2, ![256, 4]⟩ (extractStridedSlice ⟨3, ![256, 4, 1]⟩ ![0, 0, 4]
      (shapeCast ⟨3, ![256, 4, 5]⟩ x h1) h2) h3) h4 = firstOf x := by
  have key : ∀ (c : Fin 4) (v : Fin 256), transpose ⟨2, ![4, 256]⟩ [1, 0] (shapeCast ⟨2, ![256, 4]⟩
      (extractStridedSlice ⟨3, ![256, 4, 1]⟩ ![0, 0, 4] (shapeCast ⟨3, ![256, 4, 5]⟩ x h1) h2) h3) h4 (ix2 c v)
      = x (ix1 (firstAt (N := 256) rfl v c)) := by
    intro c v
    rw [transpose_ix2_apply,
      shapeCast_apply _ h3 _ (ix3 v c (0 : Fin 1)) (by
        rw [Shape.rowMajor_val_two, Shape.rowMajor_val_three]
        show (v.val * 4 + c.val) * 1 + 0 = v.val * 4 + c.val
        omega),
      extractStridedSlice_apply _ _ h2 _ (ix3 v c (4 : Fin 5)) (fun a => by
        match a with
        | ⟨0, _⟩ => show v.val = 0 + v.val; omega
        | ⟨1, _⟩ => show c.val = 0 + c.val; omega
        | ⟨2, _⟩ => rfl),
      shapeCast_apply _ h1 _ (ix1 (firstAt (N := 256) rfl v c)) (by
        rw [Shape.rowMajor_val_one, Shape.rowMajor_val_three]
        show 20 * v.val + 5 * c.val + 4 = (v.val * 4 + c.val) * 5 + 4
        omega)]
  funext i
  rw [eq_ix2 i]
  exact key _ _

/-- The matrices of one hidden layer, cut out of the list and turned: `mixOf`. -/
theorem mix_flat (x : FVec Ideal ⟨1, ![4096]⟩ .f32) (h1 : (⟨1, ![4096]⟩ : Shape).ShapeCasts ⟨3, ![256, 4, 4]⟩)
    (h2 : (⟨3, ![256, 4, 4]⟩ : Shape).Transposes [1, 2, 0] ⟨3, ![4, 4, 256]⟩) :
    transpose ⟨3, ![4, 4, 256]⟩ [1, 2, 0] (shapeCast ⟨3, ![256, 4, 4]⟩ x h1) h2 = mixOf x := by
  have key : ∀ (r c : Fin 4) (v : Fin 256),
      transpose ⟨3, ![4, 4, 256]⟩ [1, 2, 0] (shapeCast ⟨3, ![256, 4, 4]⟩ x h1) h2 (ix3 r c v)
        = x (ix1 (mixAt (N := 256) rfl v r c)) := by
    intro r c v
    rw [transpose_apply _ _ h2 _ (ix3 v r c) (fun a => match a with | ⟨0, _⟩ => rfl | ⟨1, _⟩ => rfl | ⟨2, _⟩ => rfl),
      shapeCast_apply _ h1 _ (ix1 (mixAt (N := 256) rfl v r c)) (by
        rw [Shape.rowMajor_val_one, Shape.rowMajor_val_three]
        show 16 * v.val + 4 * r.val + c.val = (v.val * 4 + r.val) * 4 + c.val
        omega)]
  funext i
  rw [eq_ix3 i]
  exact key _ _ _

/-- The last weights of one hidden layer, cut out of the list and turned: `lastOf`. -/
theorem last_flat (x : FVec Ideal ⟨1, ![1024]⟩ .f32) (h1 : (⟨1, ![1024]⟩ : Shape).ShapeCasts ⟨2, ![256, 4]⟩)
    (h2 : (⟨2, ![256, 4]⟩ : Shape).Transposes [1, 0] ⟨2, ![4, 256]⟩) :
    transpose ⟨2, ![4, 256]⟩ [1, 0] (shapeCast ⟨2, ![256, 4]⟩ x h1) h2 = lastOf x := by
  have key : ∀ (r : Fin 4) (v : Fin 256), transpose ⟨2, ![4, 256]⟩ [1, 0] (shapeCast ⟨2, ![256, 4]⟩ x h1) h2 (ix2 r v)
      = x (ix1 (lastAt (N := 256) rfl v r)) := by
    intro r v
    rw [transpose_ix2_apply, rows_apply x h1 v r (lastAt (N := 256) rfl v r) (by
      show 4 * v.val + r.val = v.val * 4 + r.val
      omega)]
  funext i
  rw [eq_ix2 i]
  exact key _ _

/-- The first weights of the four stacked hidden layers: layer `l` is `firstOf` of row `l`. -/
theorem first_stack (x : FVec Ideal ⟨2, ![4, 5120]⟩ .f32) (h1 : (⟨2, ![4, 5120]⟩ : Shape).ShapeCasts ⟨4, ![4, 256, 4, 5]⟩)
    (h2 : (⟨4, ![4, 256, 4, 5]⟩ : Shape).Slices ![0, 0, 0, 4] ⟨4, ![4, 256, 4, 1]⟩)
    (h3 : (⟨4, ![4, 256, 4, 1]⟩ : Shape).ShapeCasts ⟨3, ![4, 256, 4]⟩)
    (h4 : (⟨3, ![4, 256, 4]⟩ : Shape).Transposes [0, 2, 1] ⟨3, ![4, 4, 256]⟩) (l : Fin 4) (c : Fin 4) (v : Fin 256) :
    transpose ⟨3, ![4, 4, 256]⟩ [0, 2, 1] (shapeCast ⟨3, ![4, 256, 4]⟩ (extractStridedSlice ⟨4, ![4, 256, 4, 1]⟩ ![0, 0, 0, 4]
      (shapeCast ⟨4, ![4, 256, 4, 5]⟩ x h1) h2) h3) h4 (ix3 l c v) = firstOf (listOf x l) (ix2 c v) := by
  rw [transpose_ix3_021_apply,
    shapeCast_apply _ h3 _ (ix4 l v c (0 : Fin 1)) (by
      rw [Shape.rowMajor_val_three, Shape.rowMajor_val_four]
      show ((l.val * 256 + v.val) * 4 + c.val) * 1 + 0 = (l.val * 256 + v.val) * 4 + c.val
      omega),
    extractStridedSlice_apply _ _ h2 _ (ix4 l v c (4 : Fin 5)) (fun a => by
      match a with
      | ⟨0, _⟩ => show l.val = 0 + l.val; omega
      | ⟨1, _⟩ => show v.val = 0 + v.val; omega
      | ⟨2, _⟩ => show c.val = 0 + c.val; omega
      | ⟨3, _⟩ => rfl),
    shapeCast_apply _ h1 _ (ix2 l (firstAt (N := 256) rfl v c)) (by
      rw [Shape.rowMajor_val_two, Shape.rowMajor_val_four]
      show l.val * 5120 + (20 * v.val + 5 * c.val + 4) = ((l.val * 256 + v.val) * 4 + c.val) * 5 + 4
      omega)]
  rfl

/-- The matrices of the four stacked hidden layers: layer `l` is `mixOf` of row `l`. -/
theorem mix_stack (x : FVec Ideal ⟨2, ![4, 4096]⟩ .f32) (h1 : (⟨2, ![4, 4096]⟩ : Shape).ShapeCasts ⟨4, ![4, 256, 4, 4]⟩)
    (h2 : (⟨4, ![4, 256, 4, 4]⟩ : Shape).Transposes [0, 2, 3, 1] ⟨4, ![4, 4, 4, 256]⟩) (l r c : Fin 4) (v : Fin 256) :
    transpose ⟨4, ![4, 4, 4, 256]⟩ [0, 2, 3, 1] (shapeCast ⟨4, ![4, 256, 4, 4]⟩ x h1) h2 (ix4 l r c v)
      = mixOf (listOf x l) (ix3 r c v) := by
  rw [transpose_apply _ _ h2 _ (ix4 l v r c)
      (fun a => match a with | ⟨0, _⟩ => rfl | ⟨1, _⟩ => rfl | ⟨2, _⟩ => rfl | ⟨3, _⟩ => rfl),
    shapeCast_apply _ h1 _ (ix2 l (mixAt (N := 256) rfl v r c)) (by
      rw [Shape.rowMajor_val_two, Shape.rowMajor_val_four]
      show l.val * 4096 + (16 * v.val + 4 * r.val + c.val) = ((l.val * 256 + v.val) * 4 + r.val) * 4 + c.val
      omega)]
  rfl

/-- The last weights of the four stacked hidden layers: layer `l` is `lastOf` of row `l`. -/
theorem last_stack (x : FVec Ideal ⟨2, ![4, 1024]⟩ .f32) (h1 : (⟨2, ![4, 1024]⟩ : Shape).ShapeCasts ⟨3, ![4, 256, 4]⟩)
    (h2 : (⟨3, ![4, 256, 4]⟩ : Shape).Transposes [0, 2, 1] ⟨3, ![4, 4, 256]⟩) (l r : Fin 4) (v : Fin 256) :
    transpose ⟨3, ![4, 4, 256]⟩ [0, 2, 1] (shapeCast ⟨3, ![4, 256, 4]⟩ x h1) h2 (ix3 l r v) = lastOf (listOf x l) (ix2 r v) := by
  rw [transpose_ix3_021_apply,
    shapeCast_apply _ h1 _ (ix2 l (lastAt (N := 256) rfl v r)) (by
      rw [Shape.rowMajor_val_two, Shape.rowMajor_val_three]
      show l.val * 1024 + (4 * v.val + r.val) = (l.val * 256 + v.val) * 4 + r.val
      omega)]
  rfl

end Cert.Net

end
-- ==== Proof.Windows.lean ====
/- What the kernel's windows hold at a grid point, as entries of the arguments. -/
module

public import proofs.«01_k».proof.Proof.Launch
public import proofs.«01_k».proof.Proof.Arranged
public import Idealize.ShloMosaic.Lib.Pipeline.ValueKit.Geometry

@[expose] public section

noncomputable section

namespace Cert.KernelIdeal.Gen

open Cert.KernelIdeal Cert.Net Idealize.ShloMosaic Idealize.ShloMosaic.TcCoe Idealize.ShloMosaic.Pipeline
  Idealize.ShloMosaic.ValueIdx Idealize.SL.Sem

variable (m : (ℓ : Loc nD τ sig) → Buf (Elt Ideal) ℓ)

/-! ## Where each window's block begins -/

/-- Window 0 holds its whole array at every point. -/
theorem index_zero0 : ∀ t : Fin cfg0.N, win0_0.index t = ![0, 0] := (by decide +kernel : ∀ t : Fin grid0.N, _)
/-- Window 4 holds its whole array at every point. -/
theorem index_zero4 : ∀ t : Fin cfg0.N, win0_4.index t = ![0, 0, 0] := (by decide +kernel : ∀ t : Fin grid0.N, _)
/-- Window 5 holds its whole array at every point. -/
theorem index_zero5 : ∀ t : Fin cfg0.N, win0_5.index t = ![0, 0, 0, 0] := (by decide +kernel : ∀ t : Fin grid0.N, _)
/-- Window 6 holds its whole array at every point. -/
theorem index_zero6 : ∀ t : Fin cfg0.N, win0_6.index t = ![0, 0, 0] := (by decide +kernel : ∀ t : Fin grid0.N, _)
/-- Window 7 holds its whole array at every point. -/
theorem index_zero7 : ∀ t : Fin cfg0.N, win0_7.index t = ![0, 0] := (by decide +kernel : ∀ t : Fin grid0.N, _)
/-- Window 8 holds its whole array at every point. -/
theorem index_zero8 : ∀ t : Fin cfg0.N, win0_8.index t = ![0, 0, 0] := (by decide +kernel : ∀ t : Fin grid0.N, _)
/-- Window 9 holds its whole array at every point. -/
theorem index_zero9 : ∀ t : Fin cfg0.N, win0_9.index t = ![0, 0] := (by decide +kernel : ∀ t : Fin grid0.N, _)

/-- At a point before the last, window 1 holds the 128 copies of the point's number. -/
theorem index_row1 : ∀ t : Fin cfg0.N, t.val < 16 → win0_1.index t = ![t.val, 0] := (by decide +kernel : ∀ t : Fin grid0.N, _)
/-- At a point before the last, window 2 holds the 128 copies of the point's number. -/
theorem index_row2 : ∀ t : Fin cfg0.N, t.val < 16 → win0_2.index t = ![t.val, 0] := (by decide +kernel : ∀ t : Fin grid0.N, _)
/-- At a point before the last, window 3 holds the 128 copies of the point's number. -/
theorem index_row3 : ∀ t : Fin cfg0.N, t.val < 16 → win0_3.index t = ![t.val, 0] := (by decide +kernel : ∀ t : Fin grid0.N, _)

/-! ## What each window holds -/

/-- Window 0 holds the inputs. -/
theorem block0 (c : Dev nD) (t : Fin cfg0.N) : iblk m c 0 t = m ((c : Thread nD τ).loc main_arg0) := by
  rw [← V_main_arg0 m c]
  funext y
  blk_simp [iblk]
  refine congrArg (V m c main_arg0) ?_
  blk_ext [index_zero0]

/-- Window 1 holds the first weights of the point's 128 copies. -/
theorem block1 (c : Dev nD) (t : Fin cfg0.N) (h : t.val < 16) (n : Fin 128) (q : Fin 20) (p : Fin 40960)
    (hp : p.val = (128 * t.val + n.val) * 20 + q.val) :
    iblk m c 1 t (ix2 n q) = m ((c : Thread nD τ).loc main_arg1) (ix1 p) := by
  have e : (win0_1.blk t).view.emb (ix2 n q) = ix2 (⟨128 * t.val + n.val, by omega⟩ : Fin 2048) q := by
    have e1 := index_row1 t h
    blk_ext [e1]
    show t.val * 128 + n.val = 128 * t.val + n.val
    omega
  blk_simp [iblk]
  rw [e]
  entry_read
  exact rows_apply (m ((c : Thread nD τ).loc main_arg1)) shapeCasts_S40960_S2048x20 _ _ p hp

/-- Window 2 holds the matrices of the point's 128 copies. -/
theorem block2 (c : Dev nD) (t : Fin cfg0.N) (h : t.val < 16) (n : Fin 128) (q : Fin 16) (p : Fin 32768)
    (hp : p.val = (128 * t.val + n.val) * 16 + q.val) :
    iblk m c 2 t (ix2 n q) = m ((c : Thread nD τ).loc main_arg2) (ix1 p) := by
  have e : (win0_2.blk t).view.emb (ix2 n q) = ix2 (⟨128 * t.val + n.val, by omega⟩ : Fin 2048) q := by
    have e1 := index_row2 t h
    blk_ext [e1]
    show t.val * 128 + n.val = 128 * t.val + n.val
    omega
  blk_simp [iblk]
  rw [e]
  entry_read
  exact rows_apply (m ((c : Thread nD τ).loc main_arg2)) shapeCasts_S32768_S2048x16 _ _ p hp

/-- Window 3 holds the last weights of the point's 128 copies. -/
theorem block3 (c : Dev nD) (t : Fin cfg0.N) (h : t.val < 16) (n : Fin 128) (q : Fin 4) (p : Fin 8192)
    (hp : p.val = (128 * t.val + n.val) * 4 + q.val) :
    iblk m c 3 t (ix2 n q) = m ((c : Thread nD τ).loc main_arg3) (ix1 p) := by
  have e : (win0_3.blk t).view.emb (ix2 n q) = ix2 (⟨128 * t.val + n.val, by omega⟩ : Fin 2048) q := by
    have e1 := index_row3 t h
    blk_ext [e1]
    show t.val * 128 + n.val = 128 * t.val + n.val
    omega
  blk_simp [iblk]
  rw [e]
  entry_read
  exact rows_apply (m ((c : Thread nD τ).loc main_arg3)) shapeCasts_S8192_S2048x4 _ _ p hp

/-- Window 4 holds the stacked first weights. -/
theorem block4 (c : Dev nD) (t : Fin cfg0.N) (l r : Fin 4) (v : Fin 256) :
    iblk m c 4 t (ix3 l r v) = firstOf (listOf (m ((c : Thread nD τ).loc main_arg4)) l) (ix2 r v) := by
  have e : (win0_4.blk t).view.emb (ix3 l r v) = ix3 l r v := by blk_ext [index_zero4]
  blk_simp [iblk]
  rw [e]
  entry_read
  exact first_stack (m ((c : Thread nD τ).loc main_arg4)) shapeCasts_S4x5120_S4x256x4x5 slices_S4x256x4x5_S4x256x4x1_0_0_0_4
    shapeCasts_S4x256x4x1_S4x256x4 transposes_S4x256x4_S4x4x256_0_2_1 l r v

/-- Window 5 holds the stacked matrices. -/
theorem block5 (c : Dev nD) (t : Fin cfg0.N) (l r k : Fin 4) (v : Fin 256) :
    iblk m c 5 t (ix4 l r k v) = mixOf (listOf (m ((c : Thread nD τ).loc main_arg5)) l) (ix3 r k v) := by
  have e : (win0_5.blk t).view.emb (ix4 l r k v) = ix4 l r k v := by blk_ext [index_zero5]
  blk_simp [iblk]
  rw [e]
  entry_read
  exact mix_stack (m ((c : Thread nD τ).loc main_arg5)) shapeCasts_S4x4096_S4x256x4x4 transposes_S4x256x4x4_S4x4x4x256_0_2_3_1 l r k v

/-- Window 6 holds the stacked last weights. -/
theorem block6 (c : Dev nD) (t : Fin cfg0.N) (l r : Fin 4) (v : Fin 256) :
    iblk m c 6 t (ix3 l r v) = lastOf (listOf (m ((c : Thread nD τ).loc main_arg6)) l) (ix2 r v) := by
  have e : (win0_6.blk t).view.emb (ix3 l r v) = ix3 l r v := by blk_ext [index_zero6]
  blk_simp [iblk]
  rw [e]
  entry_read
  exact last_stack (m ((c : Thread nD τ).loc main_arg6)) shapeCasts_S4x1024_S4x256x4 transposes_S4x256x4_S4x4x256_0_2_1 l r v

/-- Window 7 holds the closing layer's first weights. -/
theorem block7 (c : Dev nD) (t : Fin cfg0.N) : iblk m c 7 t = firstOf (m ((c : Thread nD τ).loc main_arg7)) := by
  refine Eq.trans (b := V m c main_v14) ?_ ?_
  · funext y
    blk_simp [iblk]
    refine congrArg (V m c main_v14) ?_
    blk_ext [index_zero7]
  · entry_read
    exact first_flat (m ((c : Thread nD τ).loc main_arg7)) shapeCasts_S5120_S256x4x5 slices_S256x4x5_S256x4x1_0_0_4
      shapeCasts_S256x4x1_S256x4 transposes_S256x4_S4x256_1_0

/-- Window 8 holds the closing layer's matrices. -/
theorem block8 (c : Dev nD) (t : Fin cfg0.N) : iblk m c 8 t = mixOf (m ((c : Thread nD τ).loc main_arg8)) := by
  refine Eq.trans (b := V m c main_v16) ?_ ?_
  · funext y
    blk_simp [iblk]
    refine congrArg (V m c main_v16) ?_
    blk_ext [index_zero8]
  · entry_read
    exact mix_flat (m ((c : Thread nD τ).loc main_arg8)) shapeCasts_S4096_S256x4x4 transposes_S256x4x4_S4x4x256_1_2_0

/-- Window 9 holds the closing layer's last weights. -/
theorem block9 (c : Dev nD) (t : Fin cfg0.N) : iblk m c 9 t = lastOf (m ((c : Thread nD τ).loc main_arg9)) := by
  refine Eq.trans (b := V m c main_v18) ?_ ?_
  · funext y
    blk_simp [iblk]
    refine congrArg (V m c main_v18) ?_
    blk_ext [index_zero9]
  · entry_read
    exact last_flat (m ((c : Thread nD τ).loc main_arg9)) shapeCasts_S1024_S256x4 transposes_S256x4_S4x256_1_0

end Cert.KernelIdeal.Gen

end
-- ==== Proof.SegmentValue.lean ====
/- The row a grid point before the last stores, entry by entry: a double sum of scalar networks. -/
module

public import proofs.«01_k».proof.Proof.Layer
public import proofs.«01_k».proof.Proof.Segment

@[expose] public section

set_option maxRecDepth 16384

noncomputable section

namespace Cert.Net

open Idealize.ShloMosaic Idealize.ShloMosaic.ValueIdx Cert.KernelIdeal.Gen Cert.KernelIdeal

/-- The first layer before its sums: input `d` of row `b` through the scalar network of copy `n` of the block. -/
def segVec (x : FVec Ideal S32x128 .f32) (a : Fin 4 → FVec Ideal S128x1 .f32) (w : Fin 4 → Fin 4 → FVec Ideal S128x1 .f32)
    (e : Fin 4 → FVec Ideal S128x1 .f32) : FVec Ideal S32x128x128 .f32 :=
  cellVec (fun c => alongMid 32 128 (a c)) (fun r c => alongMid 32 128 (w r c)) (fun r => alongMid 32 128 (e r))
    (acrossMid 128 x)

/-- The stored row is the halved sums over the inputs and then over the copies. -/
theorem segRow_eq (x : FVec Ideal S32x128 .f32) (a : Fin 4 → FVec Ideal S128x1 .f32) (w : Fin 4 → Fin 4 → FVec Ideal S128x1 .f32)
    (e : Fin 4 → FVec Ideal S128x1 .f32) :
    segRow x a w e = shapeCast S1x32 (shapeCast S32 (foldCols 1 (by decide) (foldCols 2 (by decide) (foldCols 4 (by decide)
      (foldCols 8 (by decide) (foldCols 16 (by decide) (foldCols 32 (by decide) (foldCols 64 (by decide)
        (shapeCast S32x128 (foldLast 1 (by decide) (foldLast 2 (by decide) (foldLast 4 (by decide) (foldLast 8 (by decide)
          (foldLast 16 (by decide) (foldLast 32 (by decide) (foldLast 64 (by decide) (segVec x a w e))))))))
            shapeCasts_S32x128x1_S32x128)))))))) shapeCasts_S32x1_S32) shapeCasts_S32_S1x32 := by
  simp only [segRow, k0_pay1, k0_pay3, k0_pay4, k0_pay5, k0_pay6, k0_pay7, k0_pay8, k0_pay9, k0_pay10, k0_pay11, k0_pay12,
    k0_pay13, k0_pay14, k0_pay15, k0_pay16, k0_pay17, k0_pay18, k0_pay19, k0_pay20, shapeCast_self, round_self,
    broadcast_alongMid, broadcast_acrossMid, add_slices_last, add_slices_cols]
  rfl

/-- The stored row's entry for input row `b`. -/
theorem segRow_apply (x : FVec Ideal S32x128 .f32) (a : Fin 4 → FVec Ideal S128x1 .f32) (w : Fin 4 → Fin 4 → FVec Ideal S128x1 .f32)
    (e : Fin 4 → FVec Ideal S128x1 .f32) (b : Fin 32) :
    (segRow (F := Ideal) x a w e (ix2 0 b) : EReal) = ∑ n : Fin 128, ∑ d : Fin 128, cell (fun c => a c (ix2 n 0)) (fun r c => w r c (ix2 n 0))
      (fun r => e r (ix2 n 0)) (x (ix2 b d)) := by
  rw [segRow_eq, shapeCast_apply _ shapeCasts_S32_S1x32 _ (ix1 b) (by
      rw [Shape.rowMajor_val_two, Shape.rowMajor_val_one]
      show b.val = 0 * 32 + b.val
      omega),
    shapeCast_apply _ shapeCasts_S32x1_S32 _ (ix2 b 0) (by
      rw [Shape.rowMajor_val_two, Shape.rowMajor_val_one]
      show b.val * 1 + 0 = b.val
      omega),
    foldCols_128]
  refine Finset.sum_congr rfl fun n _ => ?_
  rw [shapeCast_apply _ shapeCasts_S32x128x1_S32x128 _ (ix3 b n 0) (by
      rw [Shape.rowMajor_val_three, Shape.rowMajor_val_two]
      show (b.val * 128 + n.val) * 1 + 0 = b.val * 128 + n.val
      omega),
    foldLast_128]
  refine Finset.sum_congr rfl fun d _ => ?_
  rw [segVec, cellVec_apply]
  rfl

/-- One column of a matrix, loaded as a column. -/
theorem load_col {n m : Nat} (X : Vec Ideal ⟨2, ![n, m]⟩ .f32) (k : Nat) (hk : k < m) (hR) (i : Fin n) :
    View.ld (Val := Elt Ideal) X (Rect.unit (s := ⟨2, ![n, m]⟩) ![0, k] ![n, 1] hR) (ix2 i 0) = X (ix2 i ⟨k, hk⟩) := by
  rw [View.ld_unit]
  refine extractStridedSlice_apply _ X _ _ (ix2 i ⟨k, hk⟩) fun d => ?_
  match d with
  | ⟨0, _⟩ => show i.val = 0 + i.val; omega
  | ⟨1, _⟩ => show k = k + 0; omega

/-- The stored row's entry over the whole blocks of weights. -/
theorem segBlock_apply (x0 : FVec Ideal S32x128 .f32) (x1 : FVec Ideal S128x20 .f32) (x2 : FVec Ideal S128x16 .f32)
    (x3 : FVec Ideal S128x4 .f32) (b : Fin 32) :
    (segBlock (F := Ideal) x0 x1 x2 x3 (ix2 0 b) : EReal) = ∑ n : Fin 128, ∑ d : Fin 128,
      cell (fun c => x1 (ix2 n ⟨5 * c.val + 4, by omega⟩)) (fun r c => x2 (ix2 n ⟨4 * r.val + c.val, by omega⟩))
        (fun r => x3 (ix2 n r)) (x0 (ix2 b d)) := by
  rw [segBlock, segRow_apply]
  refine Finset.sum_congr rfl fun n _ => Finset.sum_congr rfl fun d _ => ?_
  congr 1
  · funext c
    match c with
    | 0 => exact load_col x1 4 (by decide) _ n
    | 1 => exact load_col x1 9 (by decide) _ n
    | 2 => exact load_col x1 14 (by decide) _ n
    | 3 => exact load_col x1 19 (by decide) _ n
  · funext r c
    match r, c with
    | 0, 0 => exact load_col x2 0 (by decide) _ n
    | 0, 1 => exact load_col x2 1 (by decide) _ n
    | 0, 2 => exact load_col x2 2 (by decide) _ n
    | 0, 3 => exact load_col x2 3 (by decide) _ n
    | 1, 0 => exact load_col x2 4 (by decide) _ n
    | 1, 1 => exact load_col x2 5 (by decide) _ n
    | 1, 2 => exact load_col x2 6 (by decide) _ n
    | 1, 3 => exact load_col x2 7 (by decide) _ n
    | 2, 0 => exact load_col x2 8 (by decide) _ n
    | 2, 1 => exact load_col x2 9 (by decide) _ n
    | 2, 2 => exact load_col x2 10 (by decide) _ n
    | 2, 3 => exact load_col x2 11 (by decide) _ n
    | 3, 0 => exact load_col x2 12 (by decide) _ n
    | 3, 1 => exact load_col x2 13 (by decide) _ n
    | 3, 2 => exact load_col x2 14 (by decide) _ n
    | 3, 3 => exact load_col x2 15 (by decide) _ n
  · funext r
    match r with
    | 0 => exact load_col x3 0 (by decide) _ n
    | 1 => exact load_col x3 1 (by decide) _ n
    | 2 => exact load_col x3 2 (by decide) _ n
    | 3 => exact load_col x3 3 (by decide) _ n

end Cert.Net

end
-- ==== Proof.Output.lean ====
/- What the idealized kernel leaves in its result: the network of its arguments. -/
module

public import proofs.«01_k».proof.Proof.Windows
public import proofs.«01_k».proof.Proof.SegmentValue
public import proofs.«01_k».proof.Proof.TailValue

@[expose] public section

noncomputable section

namespace Cert.KernelIdeal.Gen

open Cert.KernelIdeal Cert.Net Idealize.ShloMosaic Idealize.ShloMosaic.TcCoe Idealize.ShloMosaic.Pipeline
  Idealize.ShloMosaic.ValueIdx Idealize.SL.Sem

variable (m : (ℓ : Loc nD τ sig) → Buf (Elt Ideal) ℓ) (ρ : Dev nD → PrngReg)

/-- The network of the argument arrays in memory `m`. -/
def netOf (c : Dev nD) : FVec Ideal S32x16 .f32 :=
  net (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9))

/-- The row written at point `g` holds, at `b`, the opening layer's output `g` of row `b`. -/
theorem rowAt_apply (c : Dev nD) (g : Fin 16) (h : g.val < 17) (b : Fin 32) :
    rowAt m c (pt g.val h) (ix2 (0 : Fin 1) b) = opening (m ((c : Thread nD τ).loc main_arg0)) (m ((c : Thread nD τ).loc main_arg1))
      (m ((c : Thread nD τ).loc main_arg2)) (m ((c : Thread nD τ).loc main_arg3)) (ix2 b g) := by
  unfold rowAt
  refine (segBlock_apply _ _ _ _ b).trans ?_
  show _ = (∑ k : Fin 128, ∑ d : Fin 128, _ : EReal)
  refine Finset.sum_congr rfl fun k _ => Finset.sum_congr rfl fun d _ => ?_
  have e1 : (fun q : Fin 4 => iblk m c 1 (pt g.val h) (ix2 k ⟨5 * q.val + 4, by omega⟩))
      = fun q : Fin 4 => m ((c : Thread nD τ).loc main_arg1) (ix1 (firstAt rfl (copyAt (N := 2048) rfl g k) q)) :=
    funext fun q => block1 m c (pt g.val h) g.isLt k _ _ (by
      show 20 * (128 * g.val + k.val) + 5 * q.val + 4 = (128 * g.val + k.val) * 20 + (5 * q.val + 4)
      omega)
  have e2 : (fun r q : Fin 4 => iblk m c 2 (pt g.val h) (ix2 k ⟨4 * r.val + q.val, by omega⟩))
      = fun r q : Fin 4 => m ((c : Thread nD τ).loc main_arg2) (ix1 (mixAt rfl (copyAt (N := 2048) rfl g k) r q)) :=
    funext fun r => funext fun q => block2 m c (pt g.val h) g.isLt k _ _ (by
      show 16 * (128 * g.val + k.val) + 4 * r.val + q.val = (128 * g.val + k.val) * 16 + (4 * r.val + q.val)
      omega)
  have e3 : (fun r : Fin 4 => iblk m c 3 (pt g.val h) (ix2 k r))
      = fun r : Fin 4 => m ((c : Thread nD τ).loc main_arg3) (ix1 (lastAt rfl (copyAt (N := 2048) rfl g k) r)) :=
    funext fun r => block3 m c (pt g.val h) g.isLt k _ _ (by
      show 4 * (128 * g.val + k.val) + r.val = (128 * g.val + k.val) * 4 + r.val
      omega)
  have e0 : iblk m c 0 (pt g.val h) (ix2 b d) = m ((c : Thread nD τ).loc main_arg0) (ix2 b d) :=
    congrFun (block0 m c (pt g.val h)) (ix2 b d)
  exact congr (congr (congr (congrArg cell e1) e2) e3) e0

/-- The scratch buffer, turned, holds the opening layer's outputs once every row is written. -/
theorem rowsAll_eq (c : Dev nD) : (fun i : S32x16.Idx => rowsAll m c (ix2 (i 1) (i 0)))
    = opening (m ((c : Thread nD τ).loc main_arg0)) (m ((c : Thread nD τ).loc main_arg1)) (m ((c : Thread nD τ).loc main_arg2))
      (m ((c : Thread nD τ).loc main_arg3)) := by
  funext i
  refine Eq.trans (rowAt_apply m c (i 1) (lt_trans (i 1).isLt (by decide)) (i 0)) ?_
  exact congrArg _ (eq_ix2 i).symm

/-- The block the last point stores is the network of the arguments. -/
theorem outAt_eq (c : Dev nD) (t : Fin cfg0.N) : outAt m c t = netOf m c := by
  unfold outAt netOf net
  rw [tailBlock_eq, rowsAll_eq, block7, block8, block9]
  have e4 : (fun (l : Fin 4) (i : S4x256.Idx) => iblk m c 4 t (ix3 l (i 0) (i 1)))
      = fun l => firstOf (listOf (m ((c : Thread nD τ).loc main_arg4)) l) :=
    funext fun l => funext fun i => (block4 m c t l (i 0) (i 1)).trans (congrArg _ (eq_ix2 i).symm)
  have e5 : (fun (l : Fin 4) (i : S4x4x256.Idx) => iblk m c 5 t (ix4 l (i 0) (i 1) (i 2)))
      = fun l => mixOf (listOf (m ((c : Thread nD τ).loc main_arg5)) l) :=
    funext fun l => funext fun i => (block5 m c t l (i 0) (i 1) (i 2)).trans (congrArg _ (eq_ix3 i).symm)
  have e6 : (fun (l : Fin 4) (i : S4x256.Idx) => iblk m c 6 t (ix3 l (i 0) (i 1)))
      = fun l => lastOf (listOf (m ((c : Thread nD τ).loc main_arg6)) l) :=
    funext fun l => funext fun i => (block6 m c t l (i 0) (i 1)).trans (congrArg _ (eq_ix2 i).symm)
  exact congr (congr (congr (congr (congr (congrArg (finish _) e4) e5) e6) rfl) rfl) rfl

/-- The result array after the run: the last point writes it back whole. -/
theorem result_eq (c : Dev nD) : (dats m 0 c).arrAt 10 cfg0.N = netOf m c := by
  refine (dats m 0 c).arrAt_eq_of_after_last 10 (pt 16 (by decide)) (by decide +kernel) _ fun j => ?_
  blk_simp
  rw [after0_10, outAt_eq]

/-- The idealized kernel ends with the network of its arguments in its result and the arguments unchanged. -/
theorem run_value : θ_run defs (onTc (τ := τ) (main (F := Ideal))) ⟨m, fun _ => 0, ρ⟩ (fun r => ∀ c : Dev nD,
      r.2.mem ((c.tc : Thread nD τ).loc main_v19) = netOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨(h.1.out_eq c 10).trans (result_eq m c), h.2.1 c⟩)
    (θ_run_and (run_arrays m ρ) (frame_ideal m ρ))

end Cert.KernelIdeal.Gen

end
-- ==== Proof.ReferenceSteps.lean ====
/- The steps of one layer as the reference takes it, each read at an index, for any number of inputs and of copies. -/
module

public import proofs.«01_k».proof.Proof.Layer
public import Idealize.ShloMosaic.Lib.ValueIdxRank6

@[expose] public section

noncomputable section

namespace Cert.Net

open Idealize.ShloMosaic Idealize.ShloMosaic.ValueIdx

variable {D N M Q G : Nat}

/-- The padded inputs repeated for every copy and brought into the order the products want: entry `(b, n, k, d)` is the
    padded input at `(b, d, k)`. -/
theorem repeated_apply (hM : M = N * 5) (y : FVec Ideal ⟨3, ![32, D, 5]⟩ .f32)
    (h3 : (⟨3, ![32, D, 5]⟩ : Shape).ShapeCasts ⟨6, ![1, 32, 1, D, 1, 5]⟩)
    (h4 : (⟨6, ![1, 32, 1, D, 1, 5]⟩ : Shape).BroadcastsInDim ⟨6, ![1, 32, 1, D, N, 5]⟩ ![0, 1, 2, 3, 4, 5])
    (h5 : (⟨6, ![1, 32, 1, D, N, 5]⟩ : Shape).ShapeCasts ⟨3, ![32, D, M]⟩)
    (h6 : (⟨3, ![32, D, M]⟩ : Shape).Transposes [0, 2, 1] ⟨3, ![32, M, D]⟩)
    (h8 : (⟨3, ![32, M, D]⟩ : Shape).ShapeCasts ⟨4, ![32, N, 5, D]⟩) (b : Fin 32) (n : Fin N) (k : Fin 5) (d : Fin D) :
    shapeCast ⟨4, ![32, N, 5, D]⟩ (transpose ⟨3, ![32, M, D]⟩ [0, 2, 1] (shapeCast ⟨3, ![32, D, M]⟩
      (broadcastInDim ⟨6, ![1, 32, 1, D, N, 5]⟩ ![0, 1, 2, 3, 4, 5] h4 (shapeCast ⟨6, ![1, 32, 1, D, 1, 5]⟩ y h3)) h5) h6) h8
      (ix4 b n k d) = y (ix3 b d k) := by
  have hp : n.val * 5 + k.val < M := by omega
  rw [shapeCast_apply _ h8 (ix4 b n k d) (ix3 b (⟨n.val * 5 + k.val, hp⟩ : Fin M) d) (by
      rw [Shape.rowMajor_val_three, Shape.rowMajor_val_four]
      show (b.val * M + (n.val * 5 + k.val)) * D + d.val = ((b.val * N + n.val) * 5 + k.val) * D + d.val
      rw [hM]; ring),
    transpose_ix3_021_apply,
    shapeCast_apply _ h5 _ (ix6 (0 : Fin 1) b (0 : Fin 1) d n k) (by
      rw [Shape.rowMajor_val_three, Shape.rowMajor_val_six]
      show ((((0 * 32 + b.val) * 1 + 0) * D + d.val) * N + n.val) * 5 + k.val = (b.val * D + d.val) * M + (n.val * 5 + k.val)
      rw [hM]; ring),
    broadcastInDim_apply _ h4 _ _ (ix6 (0 : Fin 1) b (0 : Fin 1) d (0 : Fin 1) k) (fun a => by
      match a with
      | ⟨0, _⟩ => rfl
      | ⟨1, _⟩ => rfl
      | ⟨2, _⟩ => rfl
      | ⟨3, _⟩ => show d.val = if D = 1 then 0 else d.val
                  split <;> omega
      | ⟨4, _⟩ => rfl
      | ⟨5, _⟩ => rfl),
    shapeCast_apply _ h3 _ (ix3 b d k) (by
      rw [Shape.rowMajor_val_three, Shape.rowMajor_val_six]
      show (b.val * D + d.val) * 5 + k.val = ((((0 * 32 + b.val) * 1 + 0) * D + d.val) * 1 + 0) * 5 + k.val
      ring)]

/-- The padded inputs: four zeros, and the input in the fifth place. -/
theorem padded_apply (z : FVec Ideal ⟨3, ![32, D, 4]⟩ .f32) (hz : ∀ i, z i = (0 : EReal)) (x : FVec Ideal ⟨2, ![32, D]⟩ .f32)
    (h1 : (⟨2, ![32, D]⟩ : Shape).BroadcastsInDim ⟨3, ![32, D, 1]⟩ ![0, 1])
    (h2 : Shape.Concatenates [⟨3, ![32, D, 4]⟩, ⟨3, ![32, D, 1]⟩] ⟨3, ![32, D, 5]⟩ 2) (b : Fin 32) (d : Fin D) (k : Fin 5) :
    (concatenate (α := Ideal .f32) ⟨3, ![32, D, 5]⟩ 2
      [⟨⟨3, ![32, D, 4]⟩, z⟩, ⟨⟨3, ![32, D, 1]⟩, broadcastInDim ⟨3, ![32, D, 1]⟩ ![0, 1] h1 x⟩] h2 (ix3 b d k) : EReal)
      = if k.val < 4 then 0 else x (ix2 b d) := by
  split
  · rename_i hk
    rw [concatenate_pair_apply_left (t := ⟨3, ![32, D, 5]⟩) (2 : Fin 3) z _ h2 (ix3 b d k) rfl (ix3 b d (⟨k.val, hk⟩ : Fin 4))
      (fun a => by match a with | ⟨0, _⟩ => rfl | ⟨1, _⟩ => rfl | ⟨2, _⟩ => rfl)]
    exact hz _
  · rename_i hk
    rw [concatenate_pair_apply_right (t := ⟨3, ![32, D, 5]⟩) (2 : Fin 3) z _ h2 (ix3 b d k) rfl rfl (ix3 b d (0 : Fin 1))
      (fun a ha => by
        match a with
        | ⟨0, _⟩ => rfl
        | ⟨1, _⟩ => rfl
        | ⟨2, _⟩ => exact absurd rfl ha)
      (by show 0 + 4 = k.val; omega),
      broadcastInDim_apply _ h1 _ _ (ix2 b d) (fun a => by
        match a with
        | ⟨0, _⟩ => rfl
        | ⟨1, _⟩ => show d.val = if D = 1 then 0 else d.val
                    split <;> omega)]

/-- The product of every copy with its weights: entry `(n, b, d, r)` sums over the `K` values held at `(b, n, ·, d)`. -/
theorem product_apply {K R : Nat} (dims : DotDims ⟨4, ![32, N, K, D]⟩ ⟨3, ![N, R, K]⟩ ⟨4, ![N, 32, D, R]⟩)
    (hlc : dims.lhsContracting = [2]) (hrc : dims.rhsContracting = [2]) (hln : dims.lhsNonContracting = [0, 3])
    (hrn : dims.rhsNonContracting = [1]) (hlb : dims.lhsBatch = [1]) (hrb : dims.rhsBatch = [0])
    (y : FVec Ideal ⟨4, ![32, N, K, D]⟩ .f32) (w : FVec Ideal ⟨3, ![N, R, K]⟩ .f32)
    (n : Fin N) (b : Fin 32) (d : Fin D) (r : Fin R) :
    (Host.dotGeneral dims none y w (ix4 n b d r) : EReal) = ∑ k : Fin K, (y (ix4 b n k d) : EReal) * w (ix3 n r k) := by
  obtain ⟨lc, rc, ln, rn, lb, rb, wf⟩ := dims
  dsimp only at hlc hrc hln hrn hlb hrb
  subst hlc hrc hln hrn hlb hrb
  rw [Host.dotGeneral, Ideal.dotGeneral_apply, ← Equiv.sum_comp (contrEquiv1 _ K rfl rfl).symm]
  refine Finset.sum_congr rfl fun k _ => ?_
  have hk := contrEquiv1_symm_val (DotDims.mk (sl := ⟨4, ![32, N, K, D]⟩) (sr := ⟨3, ![N, R, K]⟩) (so := ⟨4, ![N, 32, D, R]⟩)
    [2] [2] [0, 3] [1] [1] [0] wf) K rfl rfl k
  refine congrArg₂ (fun p q : EReal => p * q) (congrArg y (funext fun a => Fin.ext ?_)) (congrArg w (funext fun a => Fin.ext ?_))
  · match a with
    | ⟨0, _⟩ => rfl
    | ⟨1, _⟩ => rfl
    | ⟨2, _⟩ => exact (DotDims.lhsIdx_val_of_single _ rfl _ _).trans hk
    | ⟨3, _⟩ => rfl
  · match a with
    | ⟨0, _⟩ => rfl
    | ⟨1, _⟩ => rfl
    | ⟨2, _⟩ => exact (DotDims.rhsIdx_val_of_single _ rfl _ _).trans hk

/-- A product brought back to the order of its operand. -/
theorem turned_apply {R : Nat} (y : FVec Ideal ⟨4, ![N, 32, D, R]⟩ .f32)
    (h : (⟨4, ![N, 32, D, R]⟩ : Shape).Transposes [1, 0, 3, 2] ⟨4, ![32, N, R, D]⟩)
    (b : Fin 32) (n : Fin N) (r : Fin R) (d : Fin D) :
    transpose ⟨4, ![32, N, R, D]⟩ [1, 0, 3, 2] y h (ix4 b n r d) = y (ix4 n b d r) :=
  transpose_apply _ y h _ _ fun a => match a with | ⟨0, _⟩ => rfl | ⟨1, _⟩ => rfl | ⟨2, _⟩ => rfl | ⟨3, _⟩ => rfl

/-- A flat list of weights cut into one matrix for each copy. -/
theorem weights_apply {P R K : Nat} (w : FVec Ideal ⟨1, ![P]⟩ .f32) (h : (⟨1, ![P]⟩ : Shape).ShapeCasts ⟨3, ![N, R, K]⟩)
    (n : Fin N) (r : Fin R) (k : Fin K) (i : Fin P) (hi : i.val = (n.val * R + r.val) * K + k.val) :
    shapeCast ⟨3, ![N, R, K]⟩ w h (ix3 n r k) = w (ix1 i) :=
  shapeCast_apply w h _ _ (by
    rw [Shape.rowMajor_val_one, Shape.rowMajor_val_three]
    exact hi)

/-- The two sums that end a layer: over the inputs, then over the copies of each output. -/
theorem summed_apply (hN : N = 16 * G) (y : FVec Ideal ⟨4, ![32, N, 1, D]⟩ .f32) {u u' : Shape}
    (i₀ : u.Idx → Ideal .f32) (i₁ : u'.Idx → Ideal .f32) (hi₀ : ∀ i, i₀ i = (0 : EReal)) (hi₁ : ∀ i, i₁ i = (0 : EReal))
    (hu : 0 < u.numel) (hu' : 0 < u'.numel)
    (h21 : (⟨4, ![32, N, 1, D]⟩ : Shape).ShapeCasts ⟨3, ![32, N, D]⟩) (h22 : (⟨3, ![32, N, D]⟩ : Shape).ReducesTo [2] ⟨2, ![32, N]⟩)
    (h22' : (⟨3, ![32, N, D]⟩ : Shape).Reduces [2] ⟨2, ![32, N]⟩)
    (h23 : (⟨2, ![32, N]⟩ : Shape).ShapeCasts ⟨3, ![32, 16, G]⟩) (h24 : (⟨3, ![32, 16, G]⟩ : Shape).ReducesTo [2] ⟨2, ![32, 16]⟩)
    (h24' : (⟨3, ![32, 16, G]⟩ : Shape).Reduces [2] ⟨2, ![32, 16]⟩) (b : Fin 32) (v : Fin 16) :
    (Host.reduceAdd (φ := .f32) (shapeCast ⟨3, ![32, 16, G]⟩
      (Host.reduceAdd (φ := .f32) (shapeCast ⟨3, ![32, N, D]⟩ y h21) i₀ h22 hu) h23) i₁ h24 hu' (ix2 b v) : EReal)
      = ∑ k : Fin G, ∑ d : Fin D, y (ix4 b (⟨G * v.val + k.val, by
          have := Nat.mul_le_mul_left G (show v.val + 1 ≤ 16 by omega); rw [Nat.mul_add] at this; omega⟩ : Fin N) 0 d) := by
  rw [Host.reduceAdd, Ideal.hostReduceAdd_def, Ideal.hostReduceAdd_single h24 h24', hi₁, zero_add]
  refine Finset.sum_congr rfl fun k _ => ?_
  have hb : G * v.val + k.val < N := by
    have hk : k.val < G := k.isLt
    have := Nat.mul_le_mul_left G (show v.val + 1 ≤ 16 by omega); rw [Nat.mul_add] at this; omega
  have e : h24'.lift (ix2 b v) k = ix3 b v (show Fin G from k) :=
    funext fun a => Fin.ext (by match a with | ⟨0, _⟩ => rfl | ⟨1, _⟩ => rfl | ⟨2, _⟩ => rfl)
  rw [e, shapeCast_apply _ h23 _ (ix2 b (⟨G * v.val + k.val, hb⟩ : Fin N)) (by
      rw [Shape.rowMajor_val_two, Shape.rowMajor_val_three]
      show b.val * N + (G * v.val + k.val) = (b.val * 16 + v.val) * G + k.val
      rw [hN]; ring),
    Host.reduceAdd, Ideal.hostReduceAdd_def, Ideal.hostReduceAdd_single h22 h22', hi₀, zero_add]
  refine Finset.sum_congr rfl fun d _ => ?_
  have e' : h22'.lift (ix2 b (⟨G * v.val + k.val, hb⟩ : Fin N)) d = ix3 b (⟨G * v.val + k.val, hb⟩ : Fin N) (show Fin D from d) :=
    funext fun a => Fin.ext (by match a with | ⟨0, _⟩ => rfl | ⟨1, _⟩ => rfl | ⟨2, _⟩ => rfl)
  rw [e']
  exact shapeCast_apply _ h21 _ _ (by
    rw [Shape.rowMajor_val_three, Shape.rowMajor_val_four]
    show ((b.val * N + (G * v.val + k.val)) * 1 + 0) * D + d.val = (b.val * N + (G * v.val + k.val)) * D + d.val
    ring)

end Cert.Net
-- ==== Proof.ReferenceLayer.lean ====
/- One layer as the reference takes it: the chain of its steps is the sum of the scalar networks. -/
module

public import proofs.«01_k».proof.Proof.ReferenceSteps
public import proofs.«01_k».proof.Proof.Net

@[expose] public section

noncomputable section

namespace Cert.Net

open Idealize.ShloMosaic Idealize.ShloMosaic.ValueIdx

variable {D N M Q G P0 P1 P2 : Nat}

/-- The scalar network with its factors the other way round, and with four zeros beside its input. -/
theorem cell_eq (w : Fin 4 → Fin 5 → EReal) (m : Fin 4 → Fin 4 → EReal) (e : Fin 4 → EReal) (p : Fin 5 → EReal)
    (x : EReal) (hp : ∀ k, p k = if k.val < 4 then 0 else x) :
    ∑ r, (∑ c, (∑ k, p k * w c k) * m r c) * e r = cell (fun c => w c 4) m e x := by
  have h1 : ∀ c, ∑ k, p k * w c k = w c 4 * x := fun c => by
    rw [Fin.sum_univ_five, hp 0, hp 1, hp 2, hp 3, hp 4]
    show (0 : EReal) * _ + 0 * _ + 0 * _ + 0 * _ + x * _ = _
    simp only [zero_mul, zero_add]
    exact mul_comm _ _
  unfold cell
  refine Finset.sum_congr rfl fun r _ => ?_
  rw [mul_comm]
  refine congrArg _ (Finset.sum_congr rfl fun c _ => ?_)
  rw [h1, mul_comm]

/-- The chain from the padded inputs to the two sums: output `v` of row `b` sums, over its copies and over the inputs, the
    scalar networks. -/
theorem layer_value (hM : M = N * 5) (hN : N = 16 * G) (hP0 : P0 = 20 * N) (hP1 : P1 = 16 * N) (hP2 : P2 = 4 * N)
    (z : FVec Ideal ⟨3, ![32, D, 4]⟩ .f32) (hz : ∀ i, z i = (0 : EReal)) (x : FVec Ideal ⟨2, ![32, D]⟩ .f32)
    (w0 : FVec Ideal ⟨1, ![P0]⟩ .f32) (w1 : FVec Ideal ⟨1, ![P1]⟩ .f32) (w2 : FVec Ideal ⟨1, ![P2]⟩ .f32)
    (h1 : (⟨2, ![32, D]⟩ : Shape).BroadcastsInDim ⟨3, ![32, D, 1]⟩ ![0, 1])
    (h2 : Shape.Concatenates [⟨3, ![32, D, 4]⟩, ⟨3, ![32, D, 1]⟩] ⟨3, ![32, D, 5]⟩ 2)
    (h3 : (⟨3, ![32, D, 5]⟩ : Shape).ShapeCasts ⟨6, ![1, 32, 1, D, 1, 5]⟩)
    (h4 : (⟨6, ![1, 32, 1, D, 1, 5]⟩ : Shape).BroadcastsInDim ⟨6, ![1, 32, 1, D, N, 5]⟩ ![0, 1, 2, 3, 4, 5])
    (h5 : (⟨6, ![1, 32, 1, D, N, 5]⟩ : Shape).ShapeCasts ⟨3, ![32, D, M]⟩)
    (h6 : (⟨3, ![32, D, M]⟩ : Shape).Transposes [0, 2, 1] ⟨3, ![32, M, D]⟩)
    (h7 : (⟨1, ![P0]⟩ : Shape).ShapeCasts ⟨3, ![N, 4, 5]⟩)
    (h8 : (⟨3, ![32, M, D]⟩ : Shape).ShapeCasts ⟨4, ![32, N, 5, D]⟩)
    (d9 : DotDims ⟨4, ![32, N, 5, D]⟩ ⟨3, ![N, 4, 5]⟩ ⟨4, ![N, 32, D, 4]⟩)
    (hd9 : d9.lhsContracting = [2] ∧ d9.rhsContracting = [2] ∧ d9.lhsNonContracting = [0, 3] ∧ d9.rhsNonContracting = [1]
      ∧ d9.lhsBatch = [1] ∧ d9.rhsBatch = [0])
    (h10 : (⟨4, ![N, 32, D, 4]⟩ : Shape).Transposes [1, 0, 3, 2] ⟨4, ![32, N, 4, D]⟩)
    (h11 : (⟨4, ![32, N, 4, D]⟩ : Shape).ShapeCasts ⟨3, ![32, Q, D]⟩)
    (h12 : (⟨1, ![P1]⟩ : Shape).ShapeCasts ⟨3, ![N, 4, 4]⟩)
    (h13 : (⟨3, ![32, Q, D]⟩ : Shape).ShapeCasts ⟨4, ![32, N, 4, D]⟩)
    (d14 : DotDims ⟨4, ![32, N, 4, D]⟩ ⟨3, ![N, 4, 4]⟩ ⟨4, ![N, 32, D, 4]⟩)
    (hd14 : d14.lhsContracting = [2] ∧ d14.rhsContracting = [2] ∧ d14.lhsNonContracting = [0, 3] ∧ d14.rhsNonContracting = [1]
      ∧ d14.lhsBatch = [1] ∧ d14.rhsBatch = [0])
    (h17 : (⟨1, ![P2]⟩ : Shape).ShapeCasts ⟨3, ![N, 1, 4]⟩)
    (d19 : DotDims ⟨4, ![32, N, 4, D]⟩ ⟨3, ![N, 1, 4]⟩ ⟨4, ![N, 32, D, 1]⟩)
    (hd19 : d19.lhsContracting = [2] ∧ d19.rhsContracting = [2] ∧ d19.lhsNonContracting = [0, 3] ∧ d19.rhsNonContracting = [1]
      ∧ d19.lhsBatch = [1] ∧ d19.rhsBatch = [0])
    (h20 : (⟨4, ![N, 32, D, 1]⟩ : Shape).Transposes [1, 0, 3, 2] ⟨4, ![32, N, 1, D]⟩)
    (h21 : (⟨4, ![32, N, 1, D]⟩ : Shape).ShapeCasts ⟨3, ![32, N, D]⟩) {u u' : Shape}
    (i₀ : u.Idx → Ideal .f32) (i₁ : u'.Idx → Ideal .f32) (hi₀ : ∀ i, i₀ i = (0 : EReal)) (hi₁ : ∀ i, i₁ i = (0 : EReal))
    (hu : 0 < u.numel) (hu' : 0 < u'.numel)
    (h22 : (⟨3, ![32, N, D]⟩ : Shape).ReducesTo [2] ⟨2, ![32, N]⟩) (h22' : (⟨3, ![32, N, D]⟩ : Shape).Reduces [2] ⟨2, ![32, N]⟩)
    (h23 : (⟨2, ![32, N]⟩ : Shape).ShapeCasts ⟨3, ![32, 16, G]⟩) (h24 : (⟨3, ![32, 16, G]⟩ : Shape).ReducesTo [2] ⟨2, ![32, 16]⟩)
    (h24' : (⟨3, ![32, 16, G]⟩ : Shape).Reduces [2] ⟨2, ![32, 16]⟩) (b : Fin 32) (v : Fin 16) :
    (Host.reduceAdd (φ := .f32) (shapeCast ⟨3, ![32, 16, G]⟩ (Host.reduceAdd (φ := .f32) (shapeCast ⟨3, ![32, N, D]⟩
      (transpose ⟨4, ![32, N, 1, D]⟩ [1, 0, 3, 2] (Host.dotGeneral (φ₁ := .f32) (φ₂ := .f32) d19 none
        (shapeCast ⟨4, ![32, N, 4, D]⟩ (shapeCast ⟨3, ![32, Q, D]⟩
          (transpose ⟨4, ![32, N, 4, D]⟩ [1, 0, 3, 2] (Host.dotGeneral (φ₁ := .f32) (φ₂ := .f32) d14 none
            (shapeCast ⟨4, ![32, N, 4, D]⟩ (shapeCast ⟨3, ![32, Q, D]⟩
              (transpose ⟨4, ![32, N, 4, D]⟩ [1, 0, 3, 2] (Host.dotGeneral (φ₁ := .f32) (φ₂ := .f32) d9 none
                (shapeCast ⟨4, ![32, N, 5, D]⟩ (transpose ⟨3, ![32, M, D]⟩ [0, 2, 1] (shapeCast ⟨3, ![32, D, M]⟩
                  (broadcastInDim ⟨6, ![1, 32, 1, D, N, 5]⟩ ![0, 1, 2, 3, 4, 5] h4
                    (shapeCast ⟨6, ![1, 32, 1, D, 1, 5]⟩ (concatenate (α := Ideal .f32) ⟨3, ![32, D, 5]⟩ 2
                      [⟨⟨3, ![32, D, 4]⟩, z⟩, ⟨⟨3, ![32, D, 1]⟩, broadcastInDim ⟨3, ![32, D, 1]⟩ ![0, 1] h1 x⟩] h2) h3)) h5) h6) h8)
                (shapeCast ⟨3, ![N, 4, 5]⟩ w0 h7)) h10) h11) h13)
            (shapeCast ⟨3, ![N, 4, 4]⟩ w1 h12)) h10) h11) h13)
        (shapeCast ⟨3, ![N, 1, 4]⟩ w2 h17)) h20) h21) i₀ h22 hu) h23) i₁ h24 hu' (ix2 b v) : EReal)
      = ∑ k : Fin G, ∑ d : Fin D, cell (fun c => w0 (ix1 (firstAt hP0 (copyAt hN v k) c)))
          (fun r c => w1 (ix1 (mixAt hP1 (copyAt hN v k) r c))) (fun r => w2 (ix1 (lastAt hP2 (copyAt hN v k) r))) (x (ix2 b d)) := by
  obtain ⟨a9, b9, c9, e9, f9, g9⟩ := hd9
  obtain ⟨a14, b14, c14, e14, f14, g14⟩ := hd14
  obtain ⟨a19, b19, c19, e19, f19, g19⟩ := hd19
  rw [summed_apply hN _ i₀ i₁ hi₀ hi₁ hu hu' h21 h22 h22' h23 h24 h24']
  refine Finset.sum_congr rfl fun k _ => Finset.sum_congr rfl fun d _ => ?_
  change transpose _ _ _ h20 (ix4 b (copyAt hN v k) 0 d) = _
  generalize copyAt hN v k = n
  rw [turned_apply, product_apply d19 a19 b19 c19 e19 f19 g19, shapeCast_shapeCast]
  have p0 : P0 = N * 4 * 5 := by omega
  have key := cell_eq (fun c k => w0 (ix1 (⟨(n.val * 4 + c.val) * 5 + k.val, by omega⟩ : Fin P0)))
    (fun r c => w1 (ix1 (mixAt hP1 n r c))) (fun r => w2 (ix1 (lastAt hP2 n r)))
    (fun k => if k.val < 4 then 0 else x (ix2 b d)) (x (ix2 b d)) (fun _ => rfl)
  refine Eq.trans ?_ (key.trans ?_)
  · refine Finset.sum_congr rfl fun r _ => ?_
    rw [turned_apply, product_apply d14 a14 b14 c14 e14 f14 g14, shapeCast_shapeCast,
      weights_apply w2 h17 n 0 r (lastAt hP2 n r) (by show 4 * n.val + r.val = (n.val * 1 + 0) * 4 + r.val; omega)]
    refine congrArg (· * _) (Finset.sum_congr rfl fun c _ => ?_)
    rw [turned_apply, product_apply d9 a9 b9 c9 e9 f9 g9,
      weights_apply w1 h12 n r c (mixAt hP1 n r c) (by
        show 16 * n.val + 4 * r.val + c.val = (n.val * 4 + r.val) * 4 + c.val; omega)]
    refine congrArg (· * _) (Finset.sum_congr rfl fun k _ => ?_)
    rw [repeated_apply hM, padded_apply z hz,
      weights_apply w0 h7 n c k ⟨(n.val * 4 + c.val) * 5 + k.val, by omega⟩ rfl]
  · have e : ∀ c : Fin 4, (⟨(n.val * 4 + c.val) * 5 + (4 : Fin 5).val, by omega⟩ : Fin P0) = firstAt hP0 n c := fun c =>
      Fin.ext (by show (n.val * 4 + c.val) * 5 + 4 = 20 * n.val + 5 * c.val + 4; omega)
    simp only [e]

end Cert.Net
-- ==== Proof.ReferenceValue.lean ====
/- What the reference computes: the network of its arguments. -/
module

public import proofs.«01_k».proof.Proof.ReferenceLayer
public import proofs.«01_k».proof.Proof.Gen.ReferenceIdeal.Read

@[expose] public section

noncomputable section

namespace Cert.Net

open Idealize.ShloMosaic Idealize.ShloMosaic.ValueIdx Cert.ReferenceIdeal Cert.ReferenceIdeal.Gen Cert.ReferenceIdeal.Read

/-- The reference's zero. -/
def zeroS : FVec Ideal S_ .f32 := constant S_ .f32 0x00000000#32

/-- The reference's zero is the number zero. -/
theorem zeroS_apply (i : S_.Idx) : (zeroS i : EReal) = 0 := Ideal.ofBits_zero_f32

/-- A hidden layer of the reference, from the values it takes in and three flat lists of weights. -/
def refHidden (t : FVec Ideal S32x16 .f32) (w0 : FVec Ideal S5120 .f32) (w1 : FVec Ideal S4096 .f32)
    (w2 : FVec Ideal S1024 .f32) : FVec Ideal S32x16 .f32 :=
  let z : FVec Ideal S32x16x4 .f32 := broadcastInDim S32x16x4 ![] bcast_S_S32x16x4 zeroS
  let u : FVec Ideal S32x16x1 .f32 := broadcastInDim S32x16x1 ![0, 1] bcast_S32x16_S32x16x1_0_1 t
  let p : FVec Ideal S32x16x5 .f32 :=
    concatenate S32x16x5 2 [⟨S32x16x4, z⟩, ⟨S32x16x1, u⟩] concatenates_S32x16x4_S32x16x1_S32x16x5_d2
  let r := broadcastInDim S1x32x1x16x256x5 ![0, 1, 2, 3, 4, 5] bcast_S1x32x1x16x1x5_S1x32x1x16x256x5_0_1_2_3_4_5
    (shapeCast S1x32x1x16x1x5 p shapeCasts_S32x16x5_S1x32x1x16x1x5)
  let q := transpose S32x1280x16 [0, 2, 1] (shapeCast S32x16x1280 r shapeCasts_S1x32x1x16x256x5_S32x16x1280)
    transposes_S32x16x1280_S32x1280x16_0_2_1
  let a := transpose S32x256x4x16 [1, 0, 3, 2] (Host.dotGeneral (F := Ideal) dot_S32x256x5x16_S256x4x5_S256x32x16x4_2_2_03_1_1_0 none
    (shapeCast S32x256x5x16 q shapeCasts_S32x1280x16_S32x256x5x16) (shapeCast S256x4x5 w0 shapeCasts_S5120_S256x4x5))
    transposes_S256x32x16x4_S32x256x4x16_1_0_3_2
  let b := transpose S32x256x4x16 [1, 0, 3, 2] (Host.dotGeneral (F := Ideal) dot_S32x256x4x16_S256x4x4_S256x32x16x4_2_2_03_1_1_0 none
    (shapeCast S32x256x4x16 (shapeCast S32x1024x16 a shapeCasts_S32x256x4x16_S32x1024x16) shapeCasts_S32x1024x16_S32x256x4x16)
    (shapeCast S256x4x4 w1 shapeCasts_S4096_S256x4x4)) transposes_S256x32x16x4_S32x256x4x16_1_0_3_2
  let c := transpose S32x256x1x16 [1, 0, 3, 2] (Host.dotGeneral (F := Ideal) dot_S32x256x4x16_S256x1x4_S256x32x16x1_2_2_03_1_1_0 none
    (shapeCast S32x256x4x16 (shapeCast S32x1024x16 b shapeCasts_S32x256x4x16_S32x1024x16) shapeCasts_S32x1024x16_S32x256x4x16)
    (shapeCast S256x1x4 w2 shapeCasts_S1024_S256x1x4)) transposes_S256x32x16x1_S32x256x1x16_1_0_3_2
  let s := Host.reduceAdd (F := Ideal) (φ := .f32) (shapeCast S32x256x16 c shapeCasts_S32x256x1x16_S32x256x16) zeroS
    reducesTo_S32x256x16_S32x256_d2 h_S_
  Host.reduceAdd (F := Ideal) (φ := .f32) (shapeCast S32x16x16 s shapeCasts_S32x256_S32x16x16) zeroS reducesTo_S32x16x16_S32x16_d2 h_S_

/-- The reference's hidden layer is the sum of the scalar networks. -/
theorem refHidden_eq (t : FVec Ideal S32x16 .f32) (w0 : FVec Ideal S5120 .f32) (w1 : FVec Ideal S4096 .f32)
    (w2 : FVec Ideal S1024 .f32) : refHidden t w0 w1 w2 = layer t (firstOf w0) (mixOf w1) (lastOf w2) := by
  have key : ∀ (b : Fin 32) (v : Fin 16),
      (refHidden t w0 w1 w2 (ix2 b v) : EReal) = layer t (firstOf w0) (mixOf w1) (lastOf w2) (ix2 b v) := fun b v => by
    rw [layer_apply]
    exact layer_value (D := 16) (N := 256) (M := 1280) (Q := 1024) (G := 16) rfl rfl rfl rfl rfl _ (fun _ => Ideal.ofBits_zero_f32) t w0 w1 w2
      bcast_S32x16_S32x16x1_0_1 concatenates_S32x16x4_S32x16x1_S32x16x5_d2 shapeCasts_S32x16x5_S1x32x1x16x1x5
      bcast_S1x32x1x16x1x5_S1x32x1x16x256x5_0_1_2_3_4_5 shapeCasts_S1x32x1x16x256x5_S32x16x1280
      transposes_S32x16x1280_S32x1280x16_0_2_1 shapeCasts_S5120_S256x4x5 shapeCasts_S32x1280x16_S32x256x5x16
      dot_S32x256x5x16_S256x4x5_S256x32x16x4_2_2_03_1_1_0 ⟨rfl, rfl, rfl, rfl, rfl, rfl⟩ transposes_S256x32x16x4_S32x256x4x16_1_0_3_2
      shapeCasts_S32x256x4x16_S32x1024x16 shapeCasts_S4096_S256x4x4 shapeCasts_S32x1024x16_S32x256x4x16
      dot_S32x256x4x16_S256x4x4_S256x32x16x4_2_2_03_1_1_0 ⟨rfl, rfl, rfl, rfl, rfl, rfl⟩ shapeCasts_S1024_S256x1x4
      dot_S32x256x4x16_S256x1x4_S256x32x16x1_2_2_03_1_1_0 ⟨rfl, rfl, rfl, rfl, rfl, rfl⟩ transposes_S256x32x16x1_S32x256x1x16_1_0_3_2
      shapeCasts_S32x256x1x16_S32x256x16 zeroS zeroS zeroS_apply zeroS_apply h_S_ h_S_ reducesTo_S32x256x16_S32x256_d2 (by decide)
      shapeCasts_S32x256_S32x16x16 reducesTo_S32x16x16_S32x16_d2 (by decide) b v
  funext i
  rw [eq_ix2 i]
  exact key _ _

/-- The reference's first layer is the opening layer. -/
theorem opening_eq (x0 : FVec Ideal S32x128 .f32) (x1 : FVec Ideal S40960 .f32) (x2 : FVec Ideal S32768 .f32)
    (x3 : FVec Ideal S8192 .f32) : val_main_v24 (F := Ideal) x0 x1 x2 x3 = opening x0 x1 x2 x3 := by
  have key : ∀ (b : Fin 32) (v : Fin 16), (val_main_v24 (F := Ideal) x0 x1 x2 x3 (ix2 b v) : EReal) = opening x0 x1 x2 x3 (ix2 b v) :=
    fun b v => layer_value (D := 128) (N := 2048) (M := 10240) (Q := 8192) (G := 128) rfl rfl rfl rfl rfl _ (fun _ => Ideal.ofBits_zero_f32)
      x0 x1 x2 x3 bcast_S32x128_S32x128x1_0_1 concatenates_S32x128x4_S32x128x1_S32x128x5_d2 shapeCasts_S32x128x5_S1x32x1x128x1x5
      bcast_S1x32x1x128x1x5_S1x32x1x128x2048x5_0_1_2_3_4_5 shapeCasts_S1x32x1x128x2048x5_S32x128x10240
      transposes_S32x128x10240_S32x10240x128_0_2_1 shapeCasts_S40960_S2048x4x5 shapeCasts_S32x10240x128_S32x2048x5x128
      dot_S32x2048x5x128_S2048x4x5_S2048x32x128x4_2_2_03_1_1_0 ⟨rfl, rfl, rfl, rfl, rfl, rfl⟩
      transposes_S2048x32x128x4_S32x2048x4x128_1_0_3_2 shapeCasts_S32x2048x4x128_S32x8192x128 shapeCasts_S32768_S2048x4x4
      shapeCasts_S32x8192x128_S32x2048x4x128 dot_S32x2048x4x128_S2048x4x4_S2048x32x128x4_2_2_03_1_1_0 ⟨rfl, rfl, rfl, rfl, rfl, rfl⟩
      shapeCasts_S8192_S2048x1x4 dot_S32x2048x4x128_S2048x1x4_S2048x32x128x1_2_2_03_1_1_0 ⟨rfl, rfl, rfl, rfl, rfl, rfl⟩
      transposes_S2048x32x128x1_S32x2048x1x128_1_0_3_2 shapeCasts_S32x2048x1x128_S32x2048x128 zeroS zeroS zeroS_apply zeroS_apply
      h_S_ h_S_ reducesTo_S32x2048x128_S32x2048_d2 (by decide) shapeCasts_S32x2048_S32x16x128 reducesTo_S32x16x128_S32x16_d2
      (by decide) b v
  funext i
  rw [eq_ix2 i]
  exact key _ _

/-- A row cut out of a stack of flat lists and flattened reads the stack. -/
theorem sliced {P : Nat} (w : FVec Ideal ⟨2, ![4, P]⟩ .f32) (l : Fin 4) (h : (⟨2, ![4, P]⟩ : Shape).Slices ![l.val, 0] ⟨2, ![1, P]⟩)
    (h' : (⟨2, ![1, P]⟩ : Shape).ShapeCasts ⟨1, ![P]⟩) :
    shapeCast ⟨1, ![P]⟩ (extractStridedSlice ⟨2, ![1, P]⟩ ![l.val, 0] w h) h' = listOf w l := by
  have key : ∀ p : Fin P, shapeCast ⟨1, ![P]⟩ (extractStridedSlice ⟨2, ![1, P]⟩ ![l.val, 0] w h) h' (ix1 p) = w (ix2 l p) := by
    intro p
    rw [shapeCast_apply _ h' _ (ix2 (0 : Fin 1) p) (by
        rw [Shape.rowMajor_val_one, Shape.rowMajor_val_two]
        show 0 * P + p.val = p.val
        omega),
      extractStridedSlice_apply _ w h _ (ix2 l p) (fun a => by
        match a with
        | ⟨0, _⟩ => rfl
        | ⟨1, _⟩ => show p.val = 0 + p.val; omega)]
  funext i
  have e : i = ix1 (i 0) := funext fun a => by match a with | ⟨0, _⟩ => rfl
  rw [e]
  exact key _

/-- The reference's result is the network. -/
theorem reference_eq (x0 : FVec Ideal S32x128 .f32) (x1 : FVec Ideal S40960 .f32) (x2 : FVec Ideal S32768 .f32)
    (x3 : FVec Ideal S8192 .f32) (x4 : FVec Ideal S4x5120 .f32) (x5 : FVec Ideal S4x4096 .f32) (x6 : FVec Ideal S4x1024 .f32)
    (x7 : FVec Ideal S5120 .f32) (x8 : FVec Ideal S4096 .f32) (x9 : FVec Ideal S1024 .f32) :
    val_main_v175 (F := Ideal) x0 x1 x2 x3 x4 x5 x6 x7 x8 x9 = net x0 x1 x2 x3 x4 x5 x6 x7 x8 x9 := by
  have a0 : val_main_v26 (F := Ideal) x4 = listOf x4 0 := sliced x4 0 slices_S4x5120_S1x5120_0_0 shapeCasts_S1x5120_S5120
  have b0 : val_main_v28 (F := Ideal) x5 = listOf x5 0 := sliced x5 0 slices_S4x4096_S1x4096_0_0 shapeCasts_S1x4096_S4096
  have c0 : val_main_v30 (F := Ideal) x6 = listOf x6 0 := sliced x6 0 slices_S4x1024_S1x1024_0_0 shapeCasts_S1x1024_S1024
  have a1 : val_main_v57 (F := Ideal) x4 = listOf x4 1 := sliced x4 1 slices_S4x5120_S1x5120_1_0 shapeCasts_S1x5120_S5120
  have b1 : val_main_v59 (F := Ideal) x5 = listOf x5 1 := sliced x5 1 slices_S4x4096_S1x4096_1_0 shapeCasts_S1x4096_S4096
  have c1 : val_main_v61 (F := Ideal) x6 = listOf x6 1 := sliced x6 1 slices_S4x1024_S1x1024_1_0 shapeCasts_S1x1024_S1024
  have a2 : val_main_v89 (F := Ideal) x4 = listOf x4 2 := sliced x4 2 slices_S4x5120_S1x5120_2_0 shapeCasts_S1x5120_S5120
  have b2 : val_main_v91 (F := Ideal) x5 = listOf x5 2 := sliced x5 2 slices_S4x4096_S1x4096_2_0 shapeCasts_S1x4096_S4096
  have c2 : val_main_v93 (F := Ideal) x6 = listOf x6 2 := sliced x6 2 slices_S4x1024_S1x1024_2_0 shapeCasts_S1x1024_S1024
  have a3 : val_main_v120 (F := Ideal) x4 = listOf x4 3 := sliced x4 3 slices_S4x5120_S1x5120_3_0 shapeCasts_S1x5120_S5120
  have b3 : val_main_v122 (F := Ideal) x5 = listOf x5 3 := sliced x5 3 slices_S4x4096_S1x4096_3_0 shapeCasts_S1x4096_S4096
  have c3 : val_main_v124 (F := Ideal) x6 = listOf x6 3 := sliced x6 3 slices_S4x1024_S1x1024_3_0 shapeCasts_S1x1024_S1024
  have s1 : val_main_v55 (F := Ideal) x0 x1 x2 x3 x4 x5 x6 = refHidden (val_main_v24 (F := Ideal) x0 x1 x2 x3)
    (val_main_v26 (F := Ideal) x4) (val_main_v28 (F := Ideal) x5) (val_main_v30 (F := Ideal) x6) := rfl
  have s2 : val_main_v86 (F := Ideal) x0 x1 x2 x3 x4 x5 x6 = refHidden (val_main_v55 (F := Ideal) x0 x1 x2 x3 x4 x5 x6)
    (val_main_v57 (F := Ideal) x4) (val_main_v59 (F := Ideal) x5) (val_main_v61 (F := Ideal) x6) := rfl
  have s3 : val_main_v118 (F := Ideal) x0 x1 x2 x3 x4 x5 x6 = refHidden (val_main_v87 (F := Ideal) x0 x1 x2 x3 x4 x5 x6)
    (val_main_v89 (F := Ideal) x4) (val_main_v91 (F := Ideal) x5) (val_main_v93 (F := Ideal) x6) := rfl
  have s4 : val_main_v149 (F := Ideal) x0 x1 x2 x3 x4 x5 x6 = refHidden (val_main_v118 (F := Ideal) x0 x1 x2 x3 x4 x5 x6)
    (val_main_v120 (F := Ideal) x4) (val_main_v122 (F := Ideal) x5) (val_main_v124 (F := Ideal) x6) := rfl
  have s5 : val_main_v175 (F := Ideal) x0 x1 x2 x3 x4 x5 x6 x7 x8 x9
    = refHidden (val_main_v150 (F := Ideal) x0 x1 x2 x3 x4 x5 x6) x7 x8 x9 := rfl
  have r1 : val_main_v87 (F := Ideal) x0 x1 x2 x3 x4 x5 x6
    = addf (F := Ideal) (s := S32x16) (φ := .f32) (val_main_v86 (F := Ideal) x0 x1 x2 x3 x4 x5 x6) (val_main_v24 (F := Ideal) x0 x1 x2 x3) := rfl
  have r2 : val_main_v150 (F := Ideal) x0 x1 x2 x3 x4 x5 x6
    = addf (F := Ideal) (s := S32x16) (φ := .f32) (val_main_v149 (F := Ideal) x0 x1 x2 x3 x4 x5 x6) (val_main_v87 (F := Ideal) x0 x1 x2 x3 x4 x5 x6) := rfl
  rw [s5, r2, s4, s3, r1, s2, s1, a0, b0, c0, a1, b1, c1, a2, b2, c2, a3, b3, c3, opening_eq]
  simp only [refHidden_eq]
  rfl

end Cert.Net
-- ==== Proof.ReferenceRun.lean ====
/- The idealized reference ends with the network of its arguments in its result. -/
module

public import proofs.«01_k».proof.Proof.ReferenceValue
public import proofs.«01_k».proof.Proof.Gen.ReferenceIdeal.Run

@[expose] public section

noncomputable section

namespace Cert.ReferenceIdeal.Value

open Cert.ReferenceIdeal Cert.Net Idealize.ShloMosaic Idealize.ShloMosaic.TcCoe Idealize.ShloMosaic.StableHlo Idealize.SL.Sem

variable (m : (ℓ : Loc nD τ sig) → Buf (Elt Ideal) ℓ) (ρ : Dev nD → PrngReg)

/-- The network of the argument arrays in memory `m`. -/
def netOf (c : Dev nD) : FVec Ideal S32x16 .f32 :=
  net (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9))

/-- The idealized reference ends with the network of its arguments in its result and the arguments unchanged. -/
theorem run_value : θ_run defs (onTc (τ := τ) (main (F := Ideal))) ⟨m, fun _ => 0, ρ⟩ (fun r => ∀ c : Dev nD,
      r.2.mem ((c.tc : Thread nD τ).loc main_v175) = netOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨(h c).1.trans ((Read.val_main_v175_eq (launchContents m c)).trans
    (reference_eq _ _ _ _ _ _ _ _ _ _)), (h c).2⟩) (run m ρ)

end Cert.ReferenceIdeal.Value

end
-- ==== Proof.lean ====
/- The certificate: the kernel, its idealization and the reference terminate with their arguments unchanged, the idealization
   is the kernel over the extended reals, and it computes what the reference computes. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init
public import proofs.«01_k».proof.Proof.Gen.ReferenceIdeal.Run
public import proofs.«01_k».proof.Proof.Gen.ReferenceIdeal.Read
public import proofs.«01_k».proof.Proof.SameProgram
public import proofs.«01_k».proof.Proof.Output
public import proofs.«01_k».proof.Proof.ReferenceRun

@[expose] public section

noncomputable section

namespace Cert.Proof

open Idealize.ShloMosaic Idealize.SL.Sem Cert.Kernel

/-- The reference terminates with its arguments unchanged; it has no semaphore, so every counter reads zero. -/
theorem frame_reference : Cert.quiescent_ReferenceIdeal := fun m ρ _ =>
  (θ_run Cert.ReferenceIdeal.defs _ _).mono
    (fun r h => ⟨fun c => (h c).2, sem_eq_zero_of_no_sems rfl r.2⟩) (Cert.ReferenceIdeal.Value.run m ρ)

/-- From equal arguments the idealized kernel and the idealized reference end with equal results: the network of the
    arguments. -/
theorem equal_results : Cert.algebraic_KernelIdeal_ReferenceIdeal := fun m g m' g' _ hargs =>
  ⟨fun c => Cert.KernelIdeal.Gen.netOf m c, Cert.KernelIdeal.Gen.run_value m g,
    (θ_run Cert.ReferenceIdeal.defs _ _).mono (fun _ h c => ⟨(h c).1.trans (by
        obtain ⟨h0, h1, h2, h3, h4, h5, h6, h7, h8, h9⟩ := hargs c
        unfold Cert.ReferenceIdeal.Value.netOf Cert.KernelIdeal.Gen.netOf
        rw [h0, h1, h2, h3, h4, h5, h6, h7, h8, h9]), (h c).2⟩)
      (Cert.ReferenceIdeal.Value.run_value m' g')⟩

/-- Everything this certificate claims. -/
theorem claim : Cert.Claim := ⟨Cert.Kernel.Gen.facts, Cert.KernelIdeal.Gen.facts, Cert.ReferenceIdeal.Gen.facts,
  frame_kernel, fun m ρ _ => Cert.KernelIdeal.Gen.frame_ideal m ρ, frame_reference,
  trivial, equal_results⟩

end Cert.Proof

end
